-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S250x768 : Shape := ⟨2, ![250, 768]⟩
abbrev S96x256x8 : Shape := ⟨3, ![96, 256, 8]⟩
abbrev S96 : Shape := ⟨1, ![96]⟩
abbrev S131072x96 : Shape := ⟨2, ![131072, 96]⟩
abbrev S_ : Shape := ⟨0, ![]⟩

class Facts : Prop where
  bcast_S_S250x768 : S_.BroadcastsInDim S250x768 (![] : Fin 0 → Fin S250x768.rank)
  reducesTo_S250x768_S_d0_1 : S250x768.ReducesTo [0, 1] S_
  h_S_ : 0 < S_.numel
  bcast_S_S96 : S_.BroadcastsInDim S96 (![] : Fin 0 → Fin S96.rank)
  reducesTo_S96_S_d0 : S96.ReducesTo [0] S_
  bcast_S_S96x256x8 : S_.BroadcastsInDim S96x256x8 (![] : Fin 0 → Fin S96x256x8.rank)
  reducesTo_S96x256x8_S_d0_1_2 : S96x256x8.ReducesTo [0, 1, 2] S_

variable [Facts]

def fn_part1 {F : FTy → Type} [FloatOps F] (main_arg1 : IVec S96x256x8 8) (main_v15 : IVec S_ 1) : IVec S_ 1 :=
  let main_c_6 : IVec S_ 8 := constantI S_ 8 255#8
  let main_v16 : IVec S96x256x8 8 := broadcastInDim S96x256x8 ![] bcast_S_S96x256x8 main_c_6
  let main_v17 : IVec S96x256x8 1 := cmpi .ne main_arg1 main_v16
  let main_c_7 : IVec S_ 1 := constantI S_ 1 1#1
  let main_v18 : IVec S_ 1 := (fun x v => Host.reduce IntOp.andi x v reducesTo_S96x256x8_S_d0_1_2 h_S_) main_v17 main_c_7
  let main_v19 : IVec S_ 1 := andi main_v15 main_v18
  main_v19

def fn {F : FTy → Type} [FloatOps F] (main_arg0 : FVec F S250x768 .bf16) (main_arg1 : IVec S96x256x8 8) (main_arg2 : FVec F S96 .f32) (main_arg3 : IVec S131072x96 8) : IVec S_ 1 :=
  let main_v0 : FVec F S250x768 .bf16 := Host.absf main_arg0
  let main_cst : FVec F S_ .bf16 := constant S_ .bf16 0x7F80#16
  let main_v1 : FVec F S250x768 .bf16 := broadcastInDim S250x768 ![] bcast_S_S250x768 main_cst
  let main_v2 : IVec S250x768 1 := cmpf .olt main_v0 main_v1
  let main_c : IVec S_ 1 := constantI S_ 1 1#1
  let main_v3 : IVec S_ 1 := (fun x v => Host.reduce IntOp.andi x v reducesTo_S250x768_S_d0_1 h_S_) main_v2 main_c
  let main_cst_0 : FVec F S_ .f32 := constant S_ .f32 0x00000000#32
  let main_v4 : FVec F S96 .f32 := broadcastInDim S96 ![] bcast_S_S96 main_cst_0
  let main_v5 : IVec S96 1 := cmpf .oge main_arg2 main_v4
  let main_c_1 : IVec S_ 1 := constantI S_ 1 1#1
  let main_v6 : IVec S_ 1 := (fun x v => Host.reduce IntOp.andi x v reducesTo_S96_S_d0 h_S_) main_v5 main_c_1
  let main_v7 : IVec S_ 1 := andi main_v3 main_v6
  let main_cst_2 : FVec F S_ .f32 := constant S_ .f32 0x7F800000#32
  let main_v8 : FVec F S96 .f32 := broadcastInDim S96 ![] bcast_S_S96 main_cst_2
  let main_v9 : IVec S96 1 := cmpf .olt main_arg2 main_v8
  let main_c_3 : IVec S_ 1 := constantI S_ 1 1#1
  let main_v10 : IVec S_ 1 := (fun x v => Host.reduce IntOp.andi x v reducesTo_S96_S_d0 h_S_) main_v9 main_c_3
  let main_v11 : IVec S_ 1 := andi main_v7 main_v10
  let main_c_4 : IVec S_ 8 := constantI S_ 8 127#8
  let main_v12 : IVec S96x256x8 8 := broadcastInDim S96x256x8 ![] bcast_S_S96x256x8 main_c_4
  let main_v13 : IVec S96x256x8 1 := cmpi .ne main_arg1 main_v12
  let main_c_5 : IVec S_ 1 := constantI S_ 1 1#1
  let main_v14 : IVec S_ 1 := (fun x v => Host.reduce IntOp.andi x v reducesTo_S96x256x8_S_d0_1_2 h_S_) main_v13 main_c_5
  let main_v15 : IVec S_ 1 := andi main_v11 main_v14
  fn_part1 (F := F) main_arg1 main_v15
-- ==== Kernel.lean ====
abbrev S250x768 : Shape := ⟨2, ![250, 768]⟩
abbrev S96x256x8 : Shape := ⟨3, ![96, 256, 8]⟩
abbrev S96 : Shape := ⟨1, ![96]⟩
abbrev S131072x96 : Shape := ⟨2, ![131072, 96]⟩
abbrev S12x8x256x2x4 : Shape := ⟨5, ![12, 8, 256, 2, 4]⟩
abbrev S12x8x256x2 : Shape := ⟨4, ![12, 8, 256, 2]⟩
abbrev S12x2x8x256 : Shape := ⟨4, ![12, 2, 8, 256]⟩
abbrev S192x256 : Shape := ⟨2, ![192, 256]⟩
abbrev S96x1 : Shape := ⟨2, ![96, 1]⟩
abbrev S96x128 : Shape := ⟨2, ![96, 128]⟩
abbrev S250x131072 : Shape := ⟨2, ![250, 131072]⟩
abbrev S250x96x256 : Shape := ⟨3, ![250, 96, 256]⟩
abbrev S2048x96 : Shape := ⟨2, ![2048, 96]⟩
abbrev S250x2048 : Shape := ⟨2, ![250, 2048]⟩
abbrev S4x96x256 : Shape := ⟨3, ![4, 96, 256]⟩
abbrev S256x768 : Shape := ⟨2, ![256, 768]⟩
abbrev S256x128 : Shape := ⟨2, ![256, 128]⟩
abbrev S96x256 : Shape := ⟨2, ![96, 256]⟩
abbrev S2x768x256 : Shape := ⟨3, ![2, 768, 256]⟩
abbrev S6x768 : Shape := ⟨2, ![6, 768]⟩
abbrev S256x256 : Shape := ⟨2, ![256, 256]⟩
abbrev S256 : Shape := ⟨1, ![256]⟩
abbrev S1x256 : Shape := ⟨2, ![1, 256]⟩
abbrev S64x256 : Shape := ⟨2, ![64, 256]⟩
abbrev S128x96 : Shape := ⟨2, ![128, 96]⟩
abbrev S8x128 : Shape := ⟨2, ![8, 128]⟩
abbrev S8x256 : Shape := ⟨2, ![8, 256]⟩
abbrev S8x128x1 : Shape := ⟨3, ![8, 128, 1]⟩
abbrev S32x128 : Shape := ⟨2, ![32, 128]⟩
abbrev S1x32x128 : Shape := ⟨3, ![1, 32, 128]⟩
abbrev S128 : Shape := ⟨1, ![128]⟩
abbrev S1x128 : Shape := ⟨2, ![1, 128]⟩
abbrev S1x768x256 : Shape := ⟨3, ![1, 768, 256]⟩
abbrev S768x256 : Shape := ⟨2, ![768, 256]⟩
abbrev S250x256 : Shape := ⟨2, ![250, 256]⟩
abbrev S8x768 : Shape := ⟨2, ![8, 768]⟩
abbrev S32x256 : Shape := ⟨2, ![32, 256]⟩
abbrev S128x256 : Shape := ⟨2, ![128, 256]⟩
abbrev S32x128x1 : Shape := ⟨3, ![32, 128, 1]⟩
abbrev S1x32x256 : Shape := ⟨3, ![1, 32, 256]⟩

abbrev nBuf : Space → Nat
  | .hbm => 12
  | .vmem => 15
  | .smem => 0
  | _ => 0

abbrev bufTy : (tb : Table) → Fin (tcTables nBuf tb) → BufTy
  | .hbm, ⟨0, _⟩ => ⟨S250x768, .bf16⟩
  | .hbm, ⟨1, _⟩ => ⟨S96x256x8, .i8⟩
  | .hbm, ⟨2, _⟩ => ⟨S96, .f32⟩
  | .hbm, ⟨3, _⟩ => ⟨S131072x96, .i8⟩
  | .hbm, ⟨4, _⟩ => ⟨S12x8x256x2x4, .i8⟩
  | .hbm, ⟨5, _⟩ => ⟨S12x8x256x2, .i32⟩
  | .hbm, ⟨6, _⟩ => ⟨S12x2x8x256, .i32⟩
  | .hbm, ⟨7, _⟩ => ⟨S192x256, .i32⟩
  | .hbm, ⟨8, _⟩ => ⟨S96x1, .f32⟩
  | .hbm, ⟨9, _⟩ => ⟨S96x128, .f32⟩
  | .hbm, ⟨10, _⟩ => ⟨S250x131072, .bf16⟩
  | .hbm, ⟨11, _⟩ => ⟨S250x96x256, .f32⟩
  | .local _ .vmem, ⟨0, _⟩ => ⟨S250x768, .bf16⟩
  | .local _ .vmem, ⟨1, _⟩ => ⟨S192x256, .i32⟩
  | .local _ .vmem, ⟨2, _⟩ => ⟨S96x128, .f32⟩
  | .local _ .vmem, ⟨3, _⟩ => ⟨S2048x96, .i8⟩
  | .local _ .vmem, ⟨4, _⟩ => ⟨S2048x96, .i8⟩
  | .local _ .vmem, ⟨5, _⟩ => ⟨S250x2048, .bf16⟩
  | .local _ .vmem, ⟨6, _⟩ => ⟨S250x2048, .bf16⟩
  | .local _ .vmem, ⟨7, _⟩ => ⟨S4x96x256, .f32⟩
  | .local _ .vmem, ⟨8, _⟩ => ⟨S4x96x256, .f32⟩
  | .local _ .vmem, ⟨9, _⟩ => ⟨S256x768, .bf16⟩
  | .local _ .vmem, ⟨10, _⟩ => ⟨S256x768, .bf16⟩
  | .local _ .vmem, ⟨11, _⟩ => ⟨S256x128, .f32⟩
  | .local _ .vmem, ⟨12, _⟩ => ⟨S96x256, .f32⟩
  | .local _ .vmem, ⟨13, _⟩ => ⟨S96x256, .f32⟩
  | .local _ .vmem, ⟨14, _⟩ => ⟨S2x768x256, .fp8e4m3⟩
  | _, _ => ⟨S250x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c62_i32 : BitVec 32 := 62#32
  let v9035 : BitVec 32 := Scalar.minsi arg0 c62_i32
  let c4_i32 : BitVec 32 := 4#32
  let v9036 : BitVec 32 := Scalar.muli v9035 c4_i32
  let c0_i32_2777 : BitVec 32 := 0#32
  let v9038 : BitVec 1 := Scalar.cmpi .sgt v9036 c0_i32_2777
  let v9039 : BitVec 32 := Scalar.extui v9038
  let c0_i32_2778 : BitVec 32 := 0#32
  let v9040 : BitVec 1 := Scalar.cmpi .slt v9036 c0_i32_2778
  let v9041 : BitVec 32 := Scalar.extui v9040
  let v9042 : BitVec 32 := Scalar.subi v9039 v9041
  let c8_i32 : BitVec 32 := 8#32
  let c0_i32_2779 : BitVec 32 := 0#32
  let v9043 : BitVec 1 := Scalar.cmpi .sgt c8_i32 c0_i32_2779
  let v9044 : BitVec 32 := Scalar.extui v9043
  let c0_i32_2780 : BitVec 32 := 0#32
  let v9045 : BitVec 1 := Scalar.cmpi .slt c8_i32 c0_i32_2780
  let v9046 : BitVec 32 := Scalar.extui v9045
  let v9047 : BitVec 32 := Scalar.subi v9044 v9046
  let v9048 : BitVec 1 := Scalar.cmpi .ne v9042 v9047
  let v9049 : BitVec 32 := Scalar.remsi v9036 c8_i32
  let c0_i32_2781 : BitVec 32 := 0#32
  let v9050 : BitVec 1 := Scalar.cmpi .ne v9049 c0_i32_2781
  let v9051 : BitVec 1 := Scalar.andi v9048 v9050
  let v9037 : BitVec 32 := Scalar.divsi v9036 c8_i32
  let c1_i32 : BitVec 32 := 1#32
  let v9052 : BitVec 32 := Scalar.subi v9037 c1_i32
  let v9053 : BitVec 32 := Scalar.select v9051 v9052 v9037
  let c8_i32_2782 : BitVec 32 := 8#32
  let v9054 : BitVec 32 := Scalar.muli v9053 c8_i32_2782
  let v9055 : Index := Scalar.indexCast v9054
  let c0_2783 : Index := 0#32
  ![v9055.toNat, 0]
def k0_mult1 (i : grid0.Coords) : BitVec 32 :=
  let arg0 : BitVec 32 := BitVec.ofNat 32 (i 0).val
  let c62_i32 : BitVec 32 := 62#32
  let v9035 : BitVec 32 := Scalar.minsi arg0 c62_i32
  let c4_i32 : BitVec 32 := 4#32
  let v9036 : BitVec 32 := Scalar.muli v9035 c4_i32
  let c0_i32_2791 : BitVec 32 := 0#32
  let v9069 : BitVec 1 := Scalar.cmpi .sgt v9036 c0_i32_2791
  let v9070 : BitVec 32 := Scalar.extui v9069
  let c0_i32_2792 : BitVec 32 := 0#32
  let v9071 : BitVec 1 := Scalar.cmpi .slt v9036 c0_i32_2792
  let v9072 : BitVec 32 := Scalar.extui v9071
  let v9073 : BitVec 32 := Scalar.subi v9070 v9072
  let c128_i32_2790 : BitVec 32 := 128#32
  let c0_i32_2793 : BitVec 32 := 0#32
  let v9074 : BitVec 1 := Scalar.cmpi .sgt c128_i32_2790 c0_i32_2793
  let v9075 : BitVec 32 := Scalar.extui v9074
  let c0_i32_2794 : BitVec 32 := 0#32
  let v9076 : BitVec 1 := Scalar.cmpi .slt c128_i32_2790 c0_i32_2794
  let v9077 : BitVec 32 := Scalar.extui v9076
  let v9078 : BitVec 32 := Scalar.subi v9075 v9077
  let v9079 : BitVec 1 := Scalar.cmpi .ne v9073 v9078
  let v9080 : BitVec 32 := Scalar.remsi v9036 c128_i32_2790
  let c0_i32_2795 : BitVec 32 := 0#32
  let v9081 : BitVec 1 := Scalar.cmpi .ne v9080 c0_i32_2795
  let v9082 : BitVec 1 := Scalar.andi v9079 v9081
  let v9068 : BitVec 32 := Scalar.divsi v9036 c128_i32_2790
  let c1_i32_2796 : BitVec 32 := 1#32
  let v9083 : BitVec 32 := Scalar.subi v9068 c1_i32_2796
  let v9084 : BitVec 32 := Scalar.select v9082 v9083 v9068
  let c128_i32_2797 : BitVec 32 := 128#32
  let v9085 : BitVec 32 := Scalar.muli v9084 c128_i32_2797
  v9085
def k0_off2 (i : grid0.Coords) : Fin 2 → Nat :=
  let c0_2798 : Index := 0#32
  let arg0 : BitVec 32 := BitVec.ofNat 32 (i 0).val
  let c62_i32 : BitVec 32 := 62#32
  let v9035 : BitVec 32 := Scalar.minsi arg0 c62_i32
  let c4_i32 : BitVec 32 := 4#32
  let v9036 : BitVec 32 := Scalar.muli v9035 c4_i32
  let c0_i32_2791 : BitVec 32 := 0#32
  let v9069 : BitVec 1 := Scalar.cmpi .sgt v9036 c0_i32_2791
  let v9070 : BitVec 32 := Scalar.extui v9069
  let c0_i32_2792 : BitVec 32 := 0#32
  let v9071 : BitVec 1 := Scalar.cmpi .slt v9036 c0_i32_2792
  let v9072 : BitVec 32 := Scalar.extui v9071
  let v9073 : BitVec 32 := Scalar.subi v9070 v9072
  let c128_i32_2790 : BitVec 32 := 128#32
  let c0_i32_2793 : BitVec 32 := 0#32
  let v9074 : BitVec 1 := Scalar.cmpi .sgt c128_i32_2790 c0_i32_2793
  let v9075 : BitVec 32 := Scalar.extui v9074
  let c0_i32_2794 : BitVec 32 := 0#32
  let v9076 : BitVec 1 := Scalar.cmpi .slt c128_i32_2790 c0_i32_2794
  let v9077 : BitVec 32 := Scalar.extui v9076
  let v9078 : BitVec 32 := Scalar.subi v9075 v9077
  let v9079 : BitVec 1 := Scalar.cmpi .ne v9073 v9078
  let v9080 : BitVec 32 := Scalar.remsi v9036 c128_i32_2790
  let c0_i32_2795 : BitVec 32 := 0#32
  let v9081 : BitVec 1 := Scalar.cmpi .ne v9080 c0_i32_2795
  let v9082 : BitVec 1 := Scalar.andi v9079 v9081
  let v9068 : BitVec 32 := Scalar.divsi v9036 c128_i32_2790
  let c1_i32_2796 : BitVec 32 := 1#32
  let v9083 : BitVec 32 := Scalar.subi v9068 c1_i32_2796
  let v9084 : BitVec 32 := Scalar.select v9082 v9083 v9068
  let c128_i32_2797 : BitVec 32 := 128#32
  let v9085 : BitVec 32 := Scalar.muli v9084 c128_i32_2797
  let v9086 : BitVec 32 := v9085
  let v9087 : Index := Scalar.indexCast v9086
  ![0, v9087.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c62_i32 : BitVec 32 := 62#32
  let v0 : BitVec 32 := Scalar.minsi arg0 c62_i32
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .vmem S250x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S192x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x96 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S250x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x96x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S250x768 : Shape := ⟨2, ![250, 768]⟩
abbrev S96x256x8 : Shape := ⟨3, ![96, 256, 8]⟩
abbrev S96 : Shape := ⟨1, ![96]⟩
abbrev S131072x96 : Shape := ⟨2, ![131072, 96]⟩
abbrev S250x96x8 : Shape := ⟨3, ![250, 96, 8]⟩
abbrev S96x256x250 : Shape := ⟨3, ![96, 256, 250]⟩
abbrev S250x96x256 : Shape := ⟨3, ![250, 96, 256]⟩
abbrev S1x96x1 : Shape := ⟨3, ![1, 96, 1]⟩
abbrev S_ : Shape := ⟨0, ![]⟩
abbrev S250x96 : Shape := ⟨2, ![250, 96]⟩
abbrev S96x1 : Shape := ⟨2, ![96, 1]⟩
abbrev S96x256 : Shape := ⟨2, ![96, 256]⟩
abbrev S250x96x1 : Shape := ⟨3, ![250, 96, 1]⟩
abbrev S1x96x256 : Shape := ⟨3, ![1, 96, 256]⟩
abbrev S1x96 : Shape := ⟨2, ![1, 96]⟩
abbrev S131072x96x1 : Shape := ⟨3, ![131072, 96, 1]⟩
abbrev S131072x96x2 : Shape := ⟨3, ![131072, 96, 2]⟩
abbrev S250x131072x96 : Shape := ⟨3, ![250, 131072, 96]⟩
abbrev S250x131072 : Shape := ⟨2, ![250, 131072]⟩

abbrev nBuf : Space → Nat
  | .hbm => 57
  | .vmem => 2
  | .smem => 0
  | _ => 0

abbrev bufTy : (tb : Table) → Fin (tcTables nBuf tb) → BufTy
  | .hbm, ⟨0, _⟩ => ⟨S250x768, .bf16⟩
  | .hbm, ⟨1, _⟩ => ⟨S96x256x8, .i8⟩
  | .hbm, ⟨2, _⟩ => ⟨S96, .f32⟩
  | .hbm, ⟨3, _⟩ => ⟨S131072x96, .i8⟩
  | .hbm, ⟨4, _⟩ => ⟨S96x256x8, .f32⟩
  | .hbm, ⟨5, _⟩ => ⟨S250x96x8, .bf16⟩
  | .hbm, ⟨6, _⟩ => ⟨S96x256x8, .bf16⟩
  | .hbm, ⟨7, _⟩ => ⟨S96x256x250, .f32⟩
  | .hbm, ⟨8, _⟩ => ⟨S250x96x256, .f32⟩
  | .hbm, ⟨9, _⟩ => ⟨S1x96x1, .f32⟩
  | .hbm, ⟨10, _⟩ => ⟨S250x96x256, .f32⟩
  | .hbm, ⟨11, _⟩ => ⟨S250x96x256, .f32⟩
  | .hbm, ⟨12, _⟩ => ⟨S250x96x8, .f32⟩
  | .hbm, ⟨13, _⟩ => ⟨S250x96x8, .f32⟩
  | .hbm, ⟨14, _⟩ => ⟨S_, .f32⟩
  | .hbm, ⟨15, _⟩ => ⟨S250x96, .f32⟩
  | .hbm, ⟨16, _⟩ => ⟨S96x1, .f32⟩
  | .hbm, ⟨17, _⟩ => ⟨S96x1, .f32⟩
  | .hbm, ⟨18, _⟩ => ⟨S96x256x8, .f32⟩
  | .hbm, ⟨19, _⟩ => ⟨S_, .f32⟩
  | .hbm, ⟨20, _⟩ => ⟨S96x256, .f32⟩
  | .hbm, ⟨21, _⟩ => ⟨S96x256, .f32⟩
  | .hbm, ⟨22, _⟩ => ⟨S96x256, .f32⟩
  | .hbm, ⟨23, _⟩ => ⟨S250x96x1, .f32⟩
  | .hbm, ⟨24, _⟩ => ⟨S1x96x256, .f32⟩
  | .hbm, ⟨25, _⟩ => ⟨S250x96x256, .f32⟩
  | .hbm, ⟨26, _⟩ => ⟨S250x96x256, .f32⟩
  | .hbm, ⟨27, _⟩ => ⟨S250x96x256, .f32⟩
  | .hbm, ⟨28, _⟩ => ⟨S_, .f32⟩
  | .hbm, ⟨29, _⟩ => ⟨S250x96x256, .f32⟩
  | .hbm, ⟨30, _⟩ => ⟨S250x96x256, .f32⟩
  | .hbm, ⟨31, _⟩ => ⟨S250x96x256, .f32⟩
  | .hbm, ⟨32, _⟩ => ⟨S96, .i32⟩
  | .hbm, ⟨33, _⟩ => ⟨S1x96, .i32⟩
  | .hbm, ⟨34, _⟩ => ⟨S131072x96, .i32⟩
  | .hbm, ⟨35, _⟩ => ⟨S_, .i32⟩
  | .hbm, ⟨36, _⟩ => ⟨S1x96, .i32⟩
  | .hbm, ⟨37, _⟩ => ⟨S1x96, .i1⟩
  | .hbm, ⟨38, _⟩ => ⟨S_, .i32⟩
  | .hbm, ⟨39, _⟩ => ⟨S1x96, .i32⟩
  | .hbm, ⟨40, _⟩ => ⟨S1x96, .i32⟩
  | .hbm, ⟨41, _⟩ => ⟨S1x96, .i32⟩
  | .hbm, ⟨42, _⟩ => ⟨S_, .i32⟩
  | .hbm, ⟨43, _⟩ => ⟨S131072x96, .i32⟩
  | .hbm, ⟨44, _⟩ => ⟨S131072x96, .i1⟩
  | .hbm, ⟨45, _⟩ => ⟨S_, .i32⟩
  | .hbm, ⟨46, _⟩ => ⟨S131072x96, .i32⟩
  | .hbm, ⟨47, _⟩ => ⟨S131072x96, .i32⟩
  | .hbm, ⟨48, _⟩ => ⟨S131072x96, .i32⟩
  | .hbm, ⟨49, _⟩ => ⟨S131072x96, .i32⟩
  | .hbm, ⟨50, _⟩ => ⟨S131072x96x1, .i32⟩
  | .hbm, ⟨51, _⟩ => ⟨S131072x96x1, .i32⟩
  | .hbm, ⟨52, _⟩ => ⟨S131072x96x2, .i32⟩
  | .hbm, ⟨53, _⟩ => ⟨S250x131072x96, .f32⟩
  | .hbm, ⟨54, _⟩ => ⟨S_, .f32⟩
  | .hbm, ⟨55, _⟩ => ⟨S250x131072, .f32⟩
  | .hbm, ⟨56, _⟩ => ⟨S250x131072, .bf16⟩
  | .local _ .vmem, ⟨0, _⟩ => ⟨S96x256x8, .i8⟩
  | .local _ .vmem, ⟨1, _⟩ => ⟨S96x256x8, .f32⟩
  | _, _ => ⟨S250x768, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S96x256x8 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KRuns.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-! ## The kernel body on any staging memrefs: a subtype the run finds -/

/-- Each window's current staging memref at point `t`, spelled as the pipeline passes it (`bodyAt0`), and its wholeness. -/
abbrev ms0_0 (t : Fin cfg0.N) : Memref sig .tc .vmem S250x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S192x256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S96x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x96 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S250x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x96x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x768 .bf16 := Memref.whole cc0_scratch0
abbrev scM0_1 : Memref sig .tc .vmem S256x768 .bf16 := Memref.whole cc0_scratch1
abbrev scM0_2 : Memref sig .tc .vmem S256x128 .f32 := Memref.whole cc0_scratch2
abbrev scM0_3 : Memref sig .tc .vmem S96x256 .f32 := Memref.whole cc0_scratch3
abbrev scM0_4 : Memref sig .tc .vmem S96x256 .f32 := Memref.whole cc0_scratch4
abbrev scM0_5 : Memref sig .tc .vmem S2x768x256 .fp8e4m3 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Gen

end
-- ==== Proof.KOff.lean ====
module

public import proofs.«01_k».proof.Proof.KRuns

@[expose] public section

set_option maxRecDepth 16384

namespace Cert.Kernel.Gen
open Idealize.ShloMosaic Idealize.ShloMosaic.TcCoe Idealize.ShloMosaic.Tactic

theorem off1_closed : ∀ i : grid0.Coords, k0_off1 i = ![8 * (min (i 0).val 62 / 2), 0] := by
  intro i
  have key : ∀ j : Fin 64, ∀ i : grid0.Coords, i 0 = j → k0_off1 i = ![8 * (min j.val 62 / 2), 0] := by
    intro j i h
    unfold k0_off1
    rw [h]
    clear h
    revert j
    decide
  exact key (i 0) i rfl

theorem off2_closed : ∀ i : grid0.Coords, k0_off2 i = ![0, 128 * (min (i 0).val 62 / 32)] := by
  intro i
  have key : ∀ j : Fin 64, ∀ i : grid0.Coords, i 0 = j → k0_off2 i = ![0, 128 * (min j.val 62 / 32)] := by
    intro j i h
    unfold k0_off2
    rw [h]
    clear h
    revert j
    decide
  exact key (i 0) i rfl

instance (i : grid0.Coords) : ClosedOff (k0_off1 i) := ⟨![8 * (min (i 0).val 62 / 2), 0], off1_closed i⟩
instance (i : grid0.Coords) : ClosedOff (k0_off2 i) := ⟨![0, 128 * (min (i 0).val 62 / 32)], off2_closed i⟩
end Cert.Kernel.Gen
-- ==== Proof.KRunA.lean ====
module

public import proofs.«01_k».proof.Proof.KOff
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 10088000 in
/-- The body's triple IN CASE A (`scf.if` 0 taken: points 0): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S250x768 .bf16) (harg1 : arg1.IsWhole) (arg2 : Memref sig .tc .vmem S192x256 .i32) (harg2 : arg2.IsWhole) (arg3 : Memref sig .tc .vmem S96x128 .f32) (harg3 : arg3.IsWhole) (arg4 : Memref sig .tc .vmem S2048x96 .i8) (harg4 : arg4.IsWhole) (arg5 : Memref sig .tc .vmem S250x2048 .bf16) (harg5 : arg5.IsWhole) (arg6 : Memref sig .tc .vmem S4x96x256 .f32) (harg6 : arg6.IsWhole) (arg7 : Memref sig .tc .vmem S256x768 .bf16) (harg7 : arg7.IsWhole) (arg8 : Memref sig .tc .vmem S256x768 .bf16) (harg8 : arg8.IsWhole) (arg9 : Memref sig .tc .vmem S256x128 .f32) (harg9 : arg9.IsWhole) (arg10 : Memref sig .tc .vmem S96x256 .f32) (harg10 : arg10.IsWhole) (arg11 : Memref sig .tc .vmem S96x256 .f32) (harg11 : arg11.IsWhole) (arg12 : Memref sig .tc .vmem S2x768x256 .fp8e4m3) (harg12 : arg12.IsWhole) (hc0 : cond0_0 i)
    (x0 : Vec F S250x768 .bf16) (x1 : Vec F S192x256 .i32) (x2 : Vec F S96x128 .f32) (x3 : Vec F S2048x96 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_pq_adc i arg1 harg1 arg2 harg2 arg3 harg3 arg4 harg4 arg5 harg5 arg6 harg6 arg7 harg7 arg8 harg8 arg9 harg9 arg10 harg10 arg11 harg11 arg12 harg12) K := by
    intro E K
    simp only [cc0_pq_adc_eq_skeleton]; unfold cc0_pq_adc_skel
    simp only [k0_part245_eq_skeleton, k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part246_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part247_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Gen

end
-- ==== Proof.KRunB.lean ====
module

public import proofs.«01_k».proof.Proof.KRunA
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 9624000 in
/-- The body's triple IN CASE B (`scf.if` 0 not taken: points 1, 2, … 63: 63 of 64): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S250x768 .bf16) (harg1 : arg1.IsWhole) (arg2 : Memref sig .tc .vmem S192x256 .i32) (harg2 : arg2.IsWhole) (arg3 : Memref sig .tc .vmem S96x128 .f32) (harg3 : arg3.IsWhole) (arg4 : Memref sig .tc .vmem S2048x96 .i8) (harg4 : arg4.IsWhole) (arg5 : Memref sig .tc .vmem S250x2048 .bf16) (harg5 : arg5.IsWhole) (arg6 : Memref sig .tc .vmem S4x96x256 .f32) (harg6 : arg6.IsWhole) (arg7 : Memref sig .tc .vmem S256x768 .bf16) (harg7 : arg7.IsWhole) (arg8 : Memref sig .tc .vmem S256x768 .bf16) (harg8 : arg8.IsWhole) (arg9 : Memref sig .tc .vmem S256x128 .f32) (harg9 : arg9.IsWhole) (arg10 : Memref sig .tc .vmem S96x256 .f32) (harg10 : arg10.IsWhole) (arg11 : Memref sig .tc .vmem S96x256 .f32) (harg11 : arg11.IsWhole) (arg12 : Memref sig .tc .vmem S2x768x256 .fp8e4m3) (harg12 : arg12.IsWhole) (hc0 : ¬cond0_0 i)
    (x0 : Vec F S250x768 .bf16) (x1 : Vec F S192x256 .i32) (x2 : Vec F S96x128 .f32) (x3 : Vec F S2048x96 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_pq_adc i arg1 harg1 arg2 harg2 arg3 harg3 arg4 harg4 arg5 harg5 arg6 harg6 arg7 harg7 arg8 harg8 arg9 harg9 arg10 harg10 arg11 harg11 arg12 harg12) K := by
    intro E K
    simp only [cc0_pq_adc_eq_skeleton]; unfold cc0_pq_adc_skel
    simp only [k0_part245_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part246_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part247_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Gen

end
-- ==== Proof.KFrame.lean ====
module

public import proofs.«01_k».proof.Proof.KRunB
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5): nothing reads what the kernel leaves in them, so nothing
    of it is named (Lib/Pipeline/Dat.lean `Dat.toRForget`). -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 64 := lt_of_lt_of_eq t.isLt (show cfg0.N = 64 from N_0)
  by_cases h0 : t.val % 64 = 0
  · iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, HS0, HS1, HS2, HS3, HS4, HS5⟩
    isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    iexact H5
  · iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, HS0, HS1, HS2, HS3, HS4, HS5⟩
    isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.KIRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-! ## The kernel body on any staging memrefs: a subtype the run finds -/

/-- Each window's current staging memref at point `t`, spelled as the pipeline passes it (`bodyAt0`), and its wholeness. -/
abbrev ms0_0 (t : Fin cfg0.N) : Memref sig .tc .vmem S250x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S192x256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S96x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x96 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S250x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x96x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x768 .bf16 := Memref.whole cc0_scratch0
abbrev scM0_1 : Memref sig .tc .vmem S256x768 .bf16 := Memref.whole cc0_scratch1
abbrev scM0_2 : Memref sig .tc .vmem S256x128 .f32 := Memref.whole cc0_scratch2
abbrev scM0_3 : Memref sig .tc .vmem S96x256 .f32 := Memref.whole cc0_scratch3
abbrev scM0_4 : Memref sig .tc .vmem S96x256 .f32 := Memref.whole cc0_scratch4
abbrev scM0_5 : Memref sig .tc .vmem S2x768x256 .fp8e4m3 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.KIOff.lean ====
module

public import proofs.«01_k».proof.Proof.KIRuns

@[expose] public section

set_option maxRecDepth 16384

namespace Cert.KernelIdeal.Gen
open Idealize.ShloMosaic Idealize.ShloMosaic.TcCoe Idealize.ShloMosaic.Tactic

theorem off1_closed : ∀ i : grid0.Coords, k0_off1 i = ![8 * (min (i 0).val 62 / 2), 0] := by
  intro i
  have key : ∀ j : Fin 64, ∀ i : grid0.Coords, i 0 = j → k0_off1 i = ![8 * (min j.val 62 / 2), 0] := by
    intro j i h
    unfold k0_off1
    rw [h]
    clear h
    revert j
    decide
  exact key (i 0) i rfl

theorem off2_closed : ∀ i : grid0.Coords, k0_off2 i = ![0, 128 * (min (i 0).val 62 / 32)] := by
  intro i
  have key : ∀ j : Fin 64, ∀ i : grid0.Coords, i 0 = j → k0_off2 i = ![0, 128 * (min j.val 62 / 32)] := by
    intro j i h
    unfold k0_off2
    rw [h]
    clear h
    revert j
    decide
  exact key (i 0) i rfl

instance (i : grid0.Coords) : ClosedOff (k0_off1 i) := ⟨![8 * (min (i 0).val 62 / 2), 0], off1_closed i⟩
instance (i : grid0.Coords) : ClosedOff (k0_off2 i) := ⟨![0, 128 * (min (i 0).val 62 / 32)], off2_closed i⟩
end Cert.KernelIdeal.Gen
-- ==== Proof.KIRunA.lean ====
module

public import proofs.«01_k».proof.Proof.KIOff
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 10088000 in
/-- The body's triple IN CASE A (`scf.if` 0 taken: points 0): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S250x768 .bf16) (harg1 : arg1.IsWhole) (arg2 : Memref sig .tc .vmem S192x256 .i32) (harg2 : arg2.IsWhole) (arg3 : Memref sig .tc .vmem S96x128 .f32) (harg3 : arg3.IsWhole) (arg4 : Memref sig .tc .vmem S2048x96 .i8) (harg4 : arg4.IsWhole) (arg5 : Memref sig .tc .vmem S250x2048 .bf16) (harg5 : arg5.IsWhole) (arg6 : Memref sig .tc .vmem S4x96x256 .f32) (harg6 : arg6.IsWhole) (arg7 : Memref sig .tc .vmem S256x768 .bf16) (harg7 : arg7.IsWhole) (arg8 : Memref sig .tc .vmem S256x768 .bf16) (harg8 : arg8.IsWhole) (arg9 : Memref sig .tc .vmem S256x128 .f32) (harg9 : arg9.IsWhole) (arg10 : Memref sig .tc .vmem S96x256 .f32) (harg10 : arg10.IsWhole) (arg11 : Memref sig .tc .vmem S96x256 .f32) (harg11 : arg11.IsWhole) (arg12 : Memref sig .tc .vmem S2x768x256 .fp8e4m3) (harg12 : arg12.IsWhole) (hc0 : cond0_0 i)
    (x0 : Vec F S250x768 .bf16) (x1 : Vec F S192x256 .i32) (x2 : Vec F S96x128 .f32) (x3 : Vec F S2048x96 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_pq_adc i arg1 harg1 arg2 harg2 arg3 harg3 arg4 harg4 arg5 harg5 arg6 harg6 arg7 harg7 arg8 harg8 arg9 harg9 arg10 harg10 arg11 harg11 arg12 harg12) K := by
    intro E K
    simp only [cc0_pq_adc_eq_skeleton]; unfold cc0_pq_adc_skel
    simp only [k0_part245_eq_skeleton, k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part246_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part247_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Gen

end
-- ==== Proof.KIRunB.lean ====
module

public import proofs.«01_k».proof.Proof.KIRunA
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 9624000 in
/-- The body's triple IN CASE B (`scf.if` 0 not taken: points 1, 2, … 63: 63 of 64): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S250x768 .bf16) (harg1 : arg1.IsWhole) (arg2 : Memref sig .tc .vmem S192x256 .i32) (harg2 : arg2.IsWhole) (arg3 : Memref sig .tc .vmem S96x128 .f32) (harg3 : arg3.IsWhole) (arg4 : Memref sig .tc .vmem S2048x96 .i8) (harg4 : arg4.IsWhole) (arg5 : Memref sig .tc .vmem S250x2048 .bf16) (harg5 : arg5.IsWhole) (arg6 : Memref sig .tc .vmem S4x96x256 .f32) (harg6 : arg6.IsWhole) (arg7 : Memref sig .tc .vmem S256x768 .bf16) (harg7 : arg7.IsWhole) (arg8 : Memref sig .tc .vmem S256x768 .bf16) (harg8 : arg8.IsWhole) (arg9 : Memref sig .tc .vmem S256x128 .f32) (harg9 : arg9.IsWhole) (arg10 : Memref sig .tc .vmem S96x256 .f32) (harg10 : arg10.IsWhole) (arg11 : Memref sig .tc .vmem S96x256 .f32) (harg11 : arg11.IsWhole) (arg12 : Memref sig .tc .vmem S2x768x256 .fp8e4m3) (harg12 : arg12.IsWhole) (hc0 : ¬cond0_0 i)
    (x0 : Vec F S250x768 .bf16) (x1 : Vec F S192x256 .i32) (x2 : Vec F S96x128 .f32) (x3 : Vec F S2048x96 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_pq_adc i arg1 harg1 arg2 harg2 arg3 harg3 arg4 harg4 arg5 harg5 arg6 harg6 arg7 harg7 arg8 harg8 arg9 harg9 arg10 harg10 arg11 harg11 arg12 harg12) K := by
    intro E K
    simp only [cc0_pq_adc_eq_skeleton]; unfold cc0_pq_adc_skel
    simp only [k0_part245_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part246_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part247_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Gen

end
-- ==== Proof.KIFrame.lean ====
module

public import proofs.«01_k».proof.Proof.KIRunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5): nothing reads what the kernel leaves in them, so nothing
    of it is named (Lib/Pipeline/Dat.lean `Dat.toRForget`). -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 64 := lt_of_lt_of_eq t.isLt (show cfg0.N = 64 from N_0)
  by_cases h0 : t.val % 64 = 0
  · iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, HS0, HS1, HS2, HS3, HS4, HS5⟩
    isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    iexact H5
  · iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, HS0, HS1, HS2, HS3, HS4, HS5⟩
    isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.PreKI.lean ====
module

public import proofs.«01_k».proof.Pre_finite
public import Idealize.ShloMosaic.Lib.ReduceAll
public import Idealize.ShloMosaic.Lib.Pointwise
public import Idealize.ShloMosaic.PureOps.Ideal.Laws

/-! What the precondition says over the extended reals: the queries are reals, the scales are nonnegative reals, and no
codebook byte is one of the two that write NaN, so that each writes a real. -/

@[expose] public section

noncomputable section

namespace Cert.Pre_finite

open Idealize.ShloMosaic

/-- A comparison's bit that is one. -/
theorem of_bit {p : Prop} [Decidable p] (h : BitVec.ofBool (decide p) = 1#1) : p := by
  by_contra hp
  rw [decide_eq_false hp] at h
  exact absurd h (by decide)

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

/-- A value whose magnitude is below infinity is a real. -/
theorem real_of_abs (x : EReal) (h : max x (-x) < ⊤) : ∃ r : ℝ, x = (r : EReal) := by
  have h1 : x ≠ ⊤ := (lt_of_le_of_lt (le_max_left _ _) h).ne
  have h2 : x ≠ ⊥ := by
    rintro rfl
    exact absurd (lt_of_le_of_lt (le_max_right _ _) h) (by simp)
  exact ⟨x.toReal, (EReal.coe_toReal h1 h2).symm⟩

/-- A nonnegative value below infinity is a nonnegative real. -/
theorem real_of_nonneg (x : EReal) (h0 : 0 ≤ x) (h : x < ⊤) : ∃ r : ℝ, 0 ≤ r ∧ x = (r : EReal) := by
  have h2 : x ≠ ⊥ := by
    rintro rfl
    exact absurd h0 (by simp)
  exact ⟨x.toReal, EReal.toReal_nonneg h0, (EReal.coe_toReal h.ne h2).symm⟩

/-- A codebook byte other than the two NaN patterns writes a real. -/
theorem real_of_byte (b : BitVec 8) (h1 : b ≠ 127#8) (h2 : b ≠ 255#8) : ∃ r : ℝ, Ideal.ofBits .fp8e4m3 b = (r : EReal) := by
  show ∃ r : ℝ, Ideal.e4m3fn b = (r : EReal)
  have h : ¬ ((b.extractLsb' 3 4).toNat = 15 ∧ (b.extractLsb' 0 3).toNat = 7) := by
    revert b; decide +kernel
  unfold Ideal.e4m3fn
  dsimp only
  rw [if_neg h]
  split
  · exact ⟨_, rfl⟩
  · exact ⟨_, rfl⟩

variable [Facts]

instance : Subsingleton S_.Idx := ⟨fun a b => funext fun i => i.elim0⟩

/-- The precondition, read back. -/
theorem read (a0 : S250x768.Idx → EReal) (a1 : S96x256x8.Idx → BitVec 8) (a2 : S96.Idx → EReal) (a3 : S131072x96.Idx → BitVec 8)
    (h : fn (F := Ideal) a0 a1 a2 a3 = fun _ => 1#1) :
    (∀ i, ∃ r : ℝ, a0 i = (r : EReal)) ∧ (∀ i, ∃ r : ℝ, 0 ≤ r ∧ a2 i = (r : EReal))
      ∧ ∀ i, ∃ r : ℝ, Ideal.ofBits .fp8e4m3 (a1 i) = (r : EReal) := by
  have h' := congrFun h (fun i => i.elim0)
  unfold fn fn_part1 at h'
  obtain ⟨h', e5⟩ := IntOp.andi_eq_one.1 h'
  obtain ⟨h', e4⟩ := IntOp.andi_eq_one.1 h'
  obtain ⟨h', e3⟩ := IntOp.andi_eq_one.1 h'
  obtain ⟨e1, e2⟩ := IntOp.andi_eq_one.1 h'
  have f1 := fun i => Host.reduce_andi_all _ _ _ _ _ e1 i
  have f2 := fun i => Host.reduce_andi_all _ _ _ _ _ e2 i
  have f3 := fun i => Host.reduce_andi_all _ _ _ _ _ e3 i
  have f4 := fun i => Host.reduce_andi_all _ _ _ _ _ e4 i
  have f5 := fun i => Host.reduce_andi_all _ _ _ _ _ e5 i
  clear e1 e2 e3 e4 e5 h h'
  pointwise at f1 f2 f3 f4 f5
  refine ⟨fun i => ?_, fun i => ?_, fun i => ?_⟩
  · have h1 := of_bit (f1 i)
    rw [inf_bf16] at h1
    exact real_of_abs _ h1
  · have h3 := of_bit (f3 i)
    rw [inf_f32] at h3
    exact real_of_nonneg _ (of_bit (f2 i)) h3
  · exact real_of_byte _ (IntOp.cmpi_ne.1 (f4 i)) (IntOp.cmpi_ne.1 (f5 i))

end Cert.Pre_finite
end
-- ==== Proof.Body.lean ====
module

public import Idealize.ShloMosaic.Lib.Pipeline
public import Idealize.ShloMosaic.Lib.Scf
public import Idealize.ShloMosaic.Lib.Sig
public import Idealize.ShloMosaic.Lib.StableHlo
public import Idealize.ShloMosaic.PureOps

/-!
The kernel's body written once, with its repetitions named: what a group of eight subspaces does, what half a chunk
does, what a chunk does, what the first step does, and what a step writes of `T`. Every definition is the printed
body's own text, the repeated index arithmetic (`//` and `%` of the source) under two names; the printed body of the
idealized kernel equals `init` and `rest` by unfolding (`Proof/SameKI.lean`). The pieces are generic in the float values.
-/

@[expose] public section

noncomputable section

namespace PQ

open Idealize.ShloMosaic Idealize.SL.Sem

abbrev S250x768 : Shape := ⟨2, ![250, 768]⟩
abbrev S192x256 : Shape := ⟨2, ![192, 256]⟩
abbrev S96x1 : Shape := ⟨2, ![96, 1]⟩
abbrev S96x128 : Shape := ⟨2, ![96, 128]⟩
abbrev S2048x96 : Shape := ⟨2, ![2048, 96]⟩
abbrev S250x2048 : Shape := ⟨2, ![250, 2048]⟩
abbrev S4x96x256 : Shape := ⟨3, ![4, 96, 256]⟩
abbrev S256x768 : Shape := ⟨2, ![256, 768]⟩
abbrev S256x128 : Shape := ⟨2, ![256, 128]⟩
abbrev S96x256 : Shape := ⟨2, ![96, 256]⟩
abbrev S2x768x256 : Shape := ⟨3, ![2, 768, 256]⟩
abbrev S6x768 : Shape := ⟨2, ![6, 768]⟩
abbrev S256x256 : Shape := ⟨2, ![256, 256]⟩
abbrev S256 : Shape := ⟨1, ![256]⟩
abbrev S1x256 : Shape := ⟨2, ![1, 256]⟩
abbrev S64x256 : Shape := ⟨2, ![64, 256]⟩
abbrev S128x96 : Shape := ⟨2, ![128, 96]⟩
abbrev S8x128 : Shape := ⟨2, ![8, 128]⟩
abbrev S8x256 : Shape := ⟨2, ![8, 256]⟩
abbrev S8x128x1 : Shape := ⟨3, ![8, 128, 1]⟩
abbrev S32x128 : Shape := ⟨2, ![32, 128]⟩
abbrev S1x32x128 : Shape := ⟨3, ![1, 32, 128]⟩
abbrev S128 : Shape := ⟨1, ![128]⟩
abbrev S1x128 : Shape := ⟨2, ![1, 128]⟩
abbrev S1x768x256 : Shape := ⟨3, ![1, 768, 256]⟩
abbrev S768x256 : Shape := ⟨2, ![768, 256]⟩
abbrev S250x256 : Shape := ⟨2, ![250, 256]⟩
abbrev S8x768 : Shape := ⟨2, ![8, 768]⟩
abbrev S32x256 : Shape := ⟨2, ![32, 256]⟩
abbrev S128x256 : Shape := ⟨2, ![128, 256]⟩
abbrev S32x128x1 : Shape := ⟨3, ![32, 128, 1]⟩
abbrev S1x32x256 : Shape := ⟨3, ![1, 32, 256]⟩

/-! ## Index arithmetic -/

section Index

/-- `v // c` as the source's floor division compiles. -/
def fdiv {s : Shape} (v : IVec s 32) (c : BitVec 32) : IVec s 32 :=
  select
    (andi
      (cmpi .ne
        (subi (extui 32 (cmpi .sgt v (broadcast s 0#32)) (by decide))
          (extui 32 (cmpi .slt v (broadcast s 0#32)) (by decide)))
        (broadcast s (Scalar.subi (Scalar.extui (Scalar.cmpi .sgt c 0#32)) (Scalar.extui (Scalar.cmpi .slt c 0#32)))))
      (cmpi .ne (remsi v (broadcast s c)) (broadcast s 0#32)))
    (subi (divsi v (broadcast s c)) (broadcast s 1#32)) (divsi v (broadcast s c))

/-- `c`, or 1 where `c` is 0: what the remainder divides by. -/
def nz (c : BitVec 32) : BitVec 32 := Scalar.select (Scalar.cmpi .eq c 0#32) 1#32 c

/-- `v % c` as the source's floor remainder compiles. -/
def fmod {s : Shape} (v : IVec s 32) (c : BitVec 32) (h : s.Broadcasts s) : IVec s 32 :=
  select
    (andi
      (xori (cmpi .slt (remsi v (broadcast s (nz c))) (broadcast s 0#32))
        (broadcastTo s (broadcast s (Scalar.cmpi .slt (nz c) 0#32)) h))
      (cmpi .ne (remsi v (broadcast s (nz c))) (broadcast s 0#32)))
    (addi (remsi v (broadcast s (nz c))) (broadcast s (nz c))) (remsi v (broadcast s (nz c)))

/-- The same of one number. -/
def sfmod (v c : BitVec 32) : BitVec 32 :=
  Scalar.select
    (Scalar.andi
      (Scalar.xori (Scalar.cmpi .slt (Scalar.remsi v (nz c)) 0#32) (Scalar.cmpi .slt (nz c) 0#32))
      (Scalar.cmpi .ne (Scalar.remsi v (nz c)) 0#32))
    (Scalar.addi (Scalar.remsi v (nz c)) (nz c)) (Scalar.remsi v (nz c))

/-- The subspace (within a block of 32) of each row of the permuted channel order. -/
def subOf {s : Shape} (r : IVec s 32) (h : s.Broadcasts s) : IVec s 32 :=
  addi (muli (fdiv r 64#32) (broadcast s 8#32)) (fmod (fdiv r 4#32) 8#32 h)

/-- The channel (within a block of 256) of each row of the permuted channel order. -/
def chanOf {s : Shape} (r r' : IVec s 32) (h : s.Broadcasts s) : IVec s 32 :=
  addi (addi (muli (subOf r' h) (broadcast s 8#32)) (muli (fmod (fdiv r 32#32) 2#32 h) (broadcast s 4#32)))
    (fmod r 4#32 h)

end Index

variable {F : FTy → Type} [FloatOps F]

/-! ## Contractions -/

def dotPerm : DotDims S256x256 S256x256 S256x256 where
  lhsContracting := [1]
  rhsContracting := [0]
  lhsNonContracting := [0]
  rhsNonContracting := [1]
  lhsBatch := []
  rhsBatch := []
  wf := by decide
def dotSelT : DotDims S96x256 S256x256 S96x256 where
  lhsContracting := [1]
  rhsContracting := [1]
  lhsNonContracting := [0]
  rhsNonContracting := [0]
  lhsBatch := []
  rhsBatch := []
  wf := by decide
def dotOnes : DotDims S96x256 S96x128 S256x128 where
  lhsContracting := [0]
  rhsContracting := [0]
  lhsNonContracting := [1]
  rhsNonContracting := [1]
  lhsBatch := []
  rhsBatch := []
  wf := by decide
def dotSel : DotDims S96x256 S256x256 S96x256 where
  lhsContracting := [1]
  rhsContracting := [0]
  lhsNonContracting := [0]
  rhsNonContracting := [1]
  lhsBatch := []
  rhsBatch := []
  wf := by decide
def dotMain : DotDims S256x768 S768x256 S256x256 where
  lhsContracting := [1]
  rhsContracting := [0]
  lhsNonContracting := [0]
  rhsNonContracting := [1]
  lhsBatch := []
  rhsBatch := []
  wf := by decide
def dotT : DotDims S128x256 S256x256 S128x256 where
  lhsContracting := [1]
  rhsContracting := [0]
  lhsNonContracting := [0]
  rhsNonContracting := [1]
  lhsBatch := []
  rhsBatch := []
  wf := by decide

theorem cat_x : Shape.Concatenates [S250x768, S6x768] S256x768 0 := by decide
theorem cat_xn : Shape.Concatenates [S256x128, S256x128] S256x256 1 := by decide
theorem cat_h : Shape.Concatenates [S1x128, S1x128] S1x256 1 := by decide
theorem cat_4 : Shape.Concatenates [S32x256, S32x256, S32x256, S32x256] S128x256 0 := by decide
theorem cat_2 : Shape.Concatenates [S32x128, S32x128] S32x256 1 := by decide

/-! ## What one group of eight subspaces looks up -/

/-- The codes of a half chunk, a subspace to a row. -/
def codesT (v : Vec F S128x96 .i8) : IVec S96x128 32 :=
  transpose S96x128 [1, 0] (extui 32 v (by decide)) (by decide)

theorem slice_code (g : Fin 12) : S96x128.Slices ![8 * g.val, 0] S8x128 := by
  revert g; decide

/-- Group `g`'s codes. -/
def code (v : IVec S96x128 32) (g : Fin 12) : IVec S8x128 32 := extractStridedSlice S8x128 ![8 * g.val, 0] v (slice_code g)

/-- The lane of each code within its half of the table. -/
def lane (c : IVec S8x128 32) : IVec S8x128 32 := andi c (broadcast S8x128 127#32)

/-- Whether each code lies in the table's lower half. -/
def low (c : IVec S8x128 32) : IVec S8x128 1 := cmpi .slt c (broadcast S8x128 128#32)

/-- Each code's entry of an eight-row table: a lane of the lower half or of the upper. -/
def look {α : Type} (c : IVec S8x128 32) (tab : S8x256.Idx → α) : S8x128.Idx → α :=
  select (low c)
    (dynamicGather 1 (extractStridedSlice S8x128 ![0, 0] tab (by decide))
      (shapeCast S8x128 (shapeCast S8x128x1 (lane c) (by decide)) (by decide)))
    (dynamicGather 1 (extractStridedSlice S8x128 ![0, 128] tab (by decide))
      (shapeCast S8x128 (shapeCast S8x128x1 (lane c) (by decide)) (by decide)))

/-- The looked-up words' bytes as floats. -/
def wordBytes (c : IVec S8x128 32) (tab : Vec F S8x256 .i32) : FVec F S1x32x128 .fp8e4m3 :=
  shapeCast S1x32x128
    (bitcastToFloat .fp8e4m3 (bitcast S32x128 8 (look c (shapeCast S8x256 tab (by decide))) (by decide))) (by decide)

/-- A half chunk's sum of looked-up squared norms, one lane a database vector. -/
def halfSum (acc : FVec F S8x128 .f32) : FVec F S1x128 .f32 :=
  shapeCast S1x128 (multiReduction .add [0] S128 acc 0x00000000#32 (by decide) (.inl rfl) rfl) (by decide)

/-- A chunk's scores from what its parts left. -/
def chunkOut (h0 h1 : FVec F S1x128 .f32) (xs : Vec F S256x768 .bf16) (y : Vec F S1x768x256 .fp8e4m3)
    (xn : Vec F S256x128 .f32) : FVec F S250x256 .bf16 :=
  truncf .bf16 (extractStridedSlice S250x256 ![0, 0]
    (addf
      (addf (concatenate S256x256 1 [⟨S256x128, xn⟩, ⟨S256x128, xn⟩] cat_xn)
        (broadcastTo S256x256 (concatenate S1x256 1 [⟨S1x128, h0⟩, ⟨S1x128, h1⟩] cat_h) (by decide)))
      (matmul dotMain none xs (shapeCast S768x256 y (by decide)) (constant S256x256 .f32 0x00000000#32)))
    (by decide)) (by decide)

/-! ## What the first step computes -/

/-- The queries padded to 256 rows. -/
def xpad (x : Vec F S250x768 .bf16) : FVec F S256x768 .bf16 :=
  concatenate S256x768 0 [⟨S250x768, x⟩, ⟨S6x768, broadcast S6x768 (Scalar.ofBits .bf16 0x0000#16)⟩] cat_x

theorem slice_xb (b : Fin 3) : S256x768.Slices ![0, 256 * b.val] S256x256 := by revert b; decide

/-- The permutation of a block's channels. -/
def perm : FVec F S256x256 .bf16 :=
  truncf .bf16 (sitofp .f32 (extui 32 (cmpi .eq (iota .tc S256x256 32 [0] (by decide))
    (chanOf (iota .tc S256x256 32 [1] (by decide)) (iota .tc S256x256 32 [1] (by decide)) (by decide))) (by decide)))
    (by decide)

/-- Block `b`'s queries, the channels permuted. -/
def xpB (x : Vec F S250x768 .bf16) (b : Fin 3) : FVec F S256x256 .f32 :=
  matmul dotPerm none (extractStridedSlice S256x256 ![0, 256 * b.val] (xpad x) (slice_xb b)) perm
    (constant S256x256 .f32 0x00000000#32)

/-- Which of the block's rows belong to which subspace. -/
def selB (b : Fin 3) : FVec F S96x256 .bf16 :=
  truncf .bf16 (sitofp .f32 (extui 32 (cmpi .eq (iota .tc S96x256 32 [0] (by decide))
    (addi (subOf (iota .tc S96x256 32 [1] (by decide)) (by decide)) (broadcast S96x256 (BitVec.ofNat 32 (32 * b.val)))))
    (by decide))) (by decide)

/-- The scales' first lane. -/
def scale1 (s : Vec F S96x128 .f32) : FVec F S96x1 .f32 :=
  extractStridedSlice S96x1 ![0, 0] (shapeCast S96x128 s (by decide)) (by decide)

/-- Each row's scale. -/
def scB (s : Vec F S96x128 .f32) (b : Fin 3) : FVec F S1x256 .f32 :=
  shapeCast S1x256 (multiReduction .maximumf [0] S256
    (select (cmpf .ogt (selB (F := F) b) (broadcast S96x256 (Scalar.ofBits .bf16 0x0000#16)))
      (broadcastTo S96x256 (shapeCast S96x1 (scale1 s) (by decide)) (by decide))
      (broadcast S96x256 (Scalar.ofBits .f32 0x00000000#32)))
    0xFF800000#32 (by decide) (.inl rfl) rfl) (by decide)

/-- What the block of `xp` is stored as, -/
def xpSt (x : Vec F S250x768 .bf16) (b : Fin 3) : FVec F S256x256 .bf16 :=
  shapeCast S256x256 (truncf .bf16 (xpB x b) (by decide)) (by decide)

/-- and the block of the scaled queries. -/
def xsSt (x : Vec F S250x768 .bf16) (s : Vec F S96x128 .f32) (b : Fin 3) : FVec F S256x256 .bf16 :=
  shapeCast S256x256 (truncf .bf16
    (mulf (xpB x b)
      (broadcastTo S256x256 (mulf (broadcast S1x256 (Scalar.ofBits .f32 0xC0000000#32)) (scB s b)) (by decide)))
    (by decide)) (by decide)

/-- The block's squares, in two parts. -/
def hiB (x : Vec F S250x768 .bf16) (b : Fin 3) : FVec F S256x256 .bf16 :=
  truncf .bf16 (mulf (xpB x b) (xpB x b)) (by decide)
def loB (x : Vec F S250x768 .bf16) (b : Fin 3) : FVec F S256x256 .bf16 :=
  truncf .bf16 (subf (mulf (xpB x b) (xpB x b)) (extf .f32 (hiB x b) (by decide))) (by decide)

/-- The squared norms with block `b` added. -/
def xnormAdd (x : Vec F S250x768 .bf16) (b : Fin 3) (a : FVec F S96x256 .f32) : FVec F S96x256 .f32 :=
  addf (addf a (matmul dotSelT none (selB (F := F) b) (hiB x b) (constant S96x256 .f32 0x00000000#32)))
    (matmul dotSelT none (selB (F := F) b) (loB x b) (constant S96x256 .f32 0x00000000#32))

/-- The queries' squared norms per subspace. -/
def xnormV (x : Vec F S250x768 .bf16) : FVec F S96x256 .f32 :=
  xnormAdd x 2 (xnormAdd x 1 (xnormAdd x 0 (broadcast S96x256 (Scalar.ofBits .f32 0x00000000#32))))

/-- Their sum over the subspaces, every lane alike. -/
def xnV (x : Vec F S250x768 .bf16) : FVec F S256x128 .f32 :=
  shapeCast S256x128 (matmul dotOnes (some .fp32) (xnormV x)
    (broadcast S96x128 (Scalar.ofBits .f32 0x3F800000#32)) (constant S256x128 .f32 0x00000000#32)) (by decide)

/-- A block of words' bytes as floats. -/
def cbB (w : Vec F S64x256 .i32) : FVec F S256x256 .fp8e4m3 :=
  bitcastToFloat .fp8e4m3 (bitcast S256x256 8 (shapeCast S64x256 w (by decide)) (by decide))

/-- The codebook's squared norms with a block added. -/
def cnAdd (w : Vec F S64x256 .i32) (b : Fin 3) (a : FVec F S96x256 .f32) : FVec F S96x256 .f32 :=
  addf a (matmul dotSel none (selB (F := F) b)
    (mulf (extf .bf16 (cbB w) (by decide)) (extf .bf16 (cbB w) (by decide))) (constant S96x256 .f32 0x00000000#32))

/-- The codebook's squared norms, scaled. -/
def cnV (w0 w1 w2 : Vec F S64x256 .i32) (s : Vec F S96x128 .f32) : FVec F S96x256 .f32 :=
  shapeCast S96x256 (mulf (cnAdd w2 2 (cnAdd w1 1 (cnAdd w0 0 (broadcast S96x256 (Scalar.ofBits .f32 0x00000000#32)))))
    (broadcastTo S96x256 (mulf (scale1 s) (scale1 s)) (by decide))) (by decide)

/-! ## What a step computes of `T` -/

/-- The step's first row. -/
def q0 (n : BitVec 32) : BitVec 32 := Scalar.muli (Scalar.minsi n 62#32) 4#32

/-- Which of a block's rows belong to which of its 32 subspaces. -/
def selT : IVec S32x256 1 :=
  cmpi .eq (iota .tc S32x256 32 [0] (by decide)) (subOf (iota .tc S32x256 32 [1] (by decide)) (by decide))

theorem slice_xrow (b : Fin 3) : S8x768.Slices ![0, 256 * b.val] S8x256 := by revert b; decide

/-- Row `q0 + j` of the block, spread to its 32 subspaces. -/
def lhsT (q : BitVec 32) (xrow : Vec F S8x768 .bf16) (b : Fin 3) (j : Fin 4) : FVec F S32x256 .bf16 :=
  truncf .bf16 (select selT
    (broadcastTo S32x256 (shapeCast S1x256 (shapeCast S1x256 (multiReduction .add [0] S256
      (select (cmpi .eq (iota .tc S8x256 32 [0] (by decide))
          (broadcast S8x256 (Scalar.addi (sfmod q 8#32) (BitVec.ofNat 32 j.val))))
        (extractStridedSlice S8x256 ![0, 256 * b.val] (extf .f32 xrow (by decide) : FVec F S8x768 .f32) (slice_xrow b))
        (broadcast S8x256 (Scalar.ofBits .f32 0x00000000#32)))
      0x00000000#32 (by decide) (.inl rfl) rfl) (by decide)) (by decide)) (by decide))
    (broadcast S32x256 (Scalar.ofBits .f32 0x00000000#32))) (by decide)

/-- The four rows' products with the block's codewords. -/
def dotTV (q : BitVec 32) (xrow : Vec F S8x768 .bf16) (w : Vec F S64x256 .i32) (b : Fin 3) : FVec F S128x256 .f32 :=
  matmul dotT none (concatenate S128x256 0 [⟨S32x256, lhsT q xrow b 0⟩, ⟨S32x256, lhsT q xrow b 1⟩,
    ⟨S32x256, lhsT q xrow b 2⟩, ⟨S32x256, lhsT q xrow b 3⟩] cat_4) (cbB w)
    (constant S128x256 .f32 0x00000000#32)

theorem slice_xnt (b : Fin 3) : S96x128.Slices ![32 * b.val, 0] S32x128 := by revert b; decide
theorem slice_dot (j : Fin 4) : S128x256.Slices ![32 * j.val, 0] S32x256 := by revert j; decide

/-- A [32, 128] table twice over. -/
def twice (v : FVec F S32x128 .f32) : FVec F S32x256 .f32 :=
  concatenate S32x256 1 [⟨S32x128, v⟩, ⟨S32x128, v⟩] cat_2

/-- What the step stores of `T` for row `j` and block `b`. -/
def tOut (q : BitVec 32) (xnt : Vec F S96x128 .f32) (d : FVec F S128x256 .f32) (sc : Vec F S32x128 .f32)
    (cn : Vec F S32x256 .f32) (b : Fin 3) (j : Fin 4) : FVec F S1x32x256 .f32 :=
  shapeCast S1x32x256
    (subf
      (addf
        (twice (dynamicGather 1 (extractStridedSlice S32x128 ![32 * b.val, 0] xnt (slice_xnt b))
          (shapeCast S32x128 (shapeCast S32x128x1
            (broadcast S32x128 (Scalar.addi (sfmod q 128#32) (BitVec.ofNat 32 j.val))) (by decide)) (by decide))))
        cn)
      (mulf (broadcast S32x256 (Scalar.ofBits .f32 0x40000000#32))
        (mulf (extractStridedSlice S32x256 ![32 * j.val, 0] d (slice_dot j))
          (twice (shapeCast S32x128 sc (by decide)))))) (by decide)

/-! ## The programs -/

variable {nD : Nat} {τ : Topo} {sig : RefSig} {Λ : Labels}

/-- The body's memrefs: the windows' buffers and the scratch, each a whole buffer. -/
structure Args (sig : RefSig) where
  x : Memref sig .tc .vmem S250x768 .bf16
  hx : x.IsWhole
  w : Memref sig .tc .vmem S192x256 .i32
  hw : w.IsWhole
  s : Memref sig .tc .vmem S96x128 .f32
  hs : s.IsWhole
  c : Memref sig .tc .vmem S2048x96 .i8
  hc : c.IsWhole
  o : Memref sig .tc .vmem S250x2048 .bf16
  ho : o.IsWhole
  t : Memref sig .tc .vmem S4x96x256 .f32
  ht : t.IsWhole
  xp : Memref sig .tc .vmem S256x768 .bf16
  hxp : xp.IsWhole
  xs : Memref sig .tc .vmem S256x768 .bf16
  hxs : xs.IsWhole
  xn : Memref sig .tc .vmem S256x128 .f32
  hxn : xn.IsWhole
  xnorm : Memref sig .tc .vmem S96x256 .f32
  hxnorm : xnorm.IsWhole
  cn : Memref sig .tc .vmem S96x256 .f32
  hcn : cn.IsWhole
  y : Memref sig .tc .vmem S2x768x256 .fp8e4m3
  hy : y.IsWhole

variable (A : Args sig)

/-- The programs of the body. -/
abbrev PR (F : FTy → Type) (nD : Nat) (τ : Topo) (sig : RefSig) (Λ : Labels) : Type _ :=
  Prog (TpuEff nD τ sig (Elt F) Λ .tc) PUnit

theorem inb_w8 (g : Fin 12) (w : Fin 2) :
    ∀ a, (![16 * g.val + 8 * w.val, 0] : Fin 2 → Nat) a + S8x256.size a ≤ S192x256.size a := by
  revert g w; decide
theorem inb_cn8 (g : Fin 12) : ∀ a, (![8 * g.val, 0] : Fin 2 → Nat) a + S8x256.size a ≤ S96x256.size a := by
  revert g; decide
theorem inb_y (p : Fin 2) (g : Fin 12) (w : Fin 2) (h : Fin 2) :
    ∀ a, (![p.val, 64 * g.val + 32 * w.val, 128 * h.val] : Fin 3 → Nat) a + S1x32x128.size a ≤ S2x768x256.size a := by
  revert p g w h; decide
theorem inb_y1 (p : Fin 2) :
    ∀ a, (![p.val, 0, 0] : Fin 3 → Nat) a + S1x768x256.size a ≤ S2x768x256.size a := by
  revert p; decide
theorem inb_c (c : Fin 8) (h : Fin 2) :
    ∀ a, (![256 * c.val + 128 * h.val, 0] : Fin 2 → Nat) a + S128x96.size a ≤ S2048x96.size a := by
  revert c h; decide
theorem inb_o (c : Fin 8) : ∀ a, (![0, 256 * c.val] : Fin 2 → Nat) a + S250x256.size a ≤ S250x2048.size a := by
  revert c; decide
theorem inb_xpb (b : Fin 3) : ∀ a, (![0, 256 * b.val] : Fin 2 → Nat) a + S256x256.size a ≤ S256x768.size a := by
  revert b; decide
theorem inb_w64 (b : Fin 3) : ∀ a, (![64 * b.val, 0] : Fin 2 → Nat) a + S64x256.size a ≤ S192x256.size a := by
  revert b; decide
theorem inb_s32 (b : Fin 3) : ∀ a, (![32 * b.val, 0] : Fin 2 → Nat) a + S32x128.size a ≤ S96x128.size a := by
  revert b; decide
theorem inb_cn32 (b : Fin 3) : ∀ a, (![32 * b.val, 0] : Fin 2 → Nat) a + S32x256.size a ≤ S96x256.size a := by
  revert b; decide
theorem inb_t (j : Fin 4) (b : Fin 3) :
    ∀ a, (![j.val, 32 * b.val, 0] : Fin 3 → Nat) a + S1x32x256.size a ≤ S4x96x256.size a := by
  revert j b; decide

theorem pos_S128x96 : 0 < S128x96.numel := by decide
theorem pos_S1x32x128 : 0 < S1x32x128.numel := by decide
theorem pos_S1x32x256 : 0 < S1x32x256.numel := by decide
theorem pos_S1x768x256 : 0 < S1x768x256.numel := by decide
theorem pos_S250x256 : 0 < S250x256.numel := by decide
theorem pos_S250x768 : 0 < S250x768.numel := by decide
theorem pos_S256x128 : 0 < S256x128.numel := by decide
theorem pos_S256x256 : 0 < S256x256.numel := by decide
theorem pos_S256x768 : 0 < S256x768.numel := by decide
theorem pos_S32x128 : 0 < S32x128.numel := by decide
theorem pos_S32x256 : 0 < S32x256.numel := by decide
theorem pos_S64x256 : 0 < S64x256.numel := by decide
theorem pos_S8x256 : 0 < S8x256.numel := by decide
theorem pos_S8x768 : 0 < S8x768.numel := by decide
theorem pos_S96x128 : 0 < S96x128.numel := by decide
theorem pos_S96x256 : 0 < S96x256.numel := by decide

/-- The chunk's half of the two-chunk buffer. -/
def par (c : Fin 8) : Fin 2 := ⟨c.val % 2, Nat.mod_lt _ (by decide)⟩

abbrev rY (p : Fin 2) (g : Fin 12) (w h : Fin 2) : Rect S2x768x256 :=
  Rect.unit (s := S2x768x256) ![p.val, 64 * g.val + 32 * w.val, 128 * h.val] S1x32x128.size (inb_y p g w h)
abbrev rO (c : Fin 8) : Rect S250x2048 := Rect.unit (s := S250x2048) ![0, 256 * c.val] S250x256.size (inb_o c)
abbrev rXp (b : Fin 3) : Rect S256x768 := Rect.unit (s := S256x768) ![0, 256 * b.val] S256x256.size (inb_xpb b)
abbrev rT (j : Fin 4) (b : Fin 3) : Rect S4x96x256 :=
  Rect.unit (s := S4x96x256) ![j.val, 32 * b.val, 0] S1x32x256.size (inb_t j b)
abbrev rAllXs : Rect S256x768 := Rect.unit (s := S256x768) ![0, 0] S256x768.size (by decide)
abbrev rAllXn : Rect S256x128 := Rect.unit (s := S256x128) ![0, 0] S256x128.size (by decide)
abbrev rAll96 : Rect S96x256 := Rect.unit (s := S96x256) ![0, 0] S96x256.size (by decide)
abbrev rAllX : Rect S250x768 := Rect.unit (s := S250x768) ![0, 0] S250x768.size (by decide)
abbrev rAllS : Rect S96x128 := Rect.unit (s := S96x128) ![0, 0] S96x128.size (by decide)
abbrev rW8 (g : Fin 12) (w : Fin 2) : Rect S192x256 :=
  Rect.unit (s := S192x256) ![16 * g.val + 8 * w.val, 0] S8x256.size (inb_w8 g w)
abbrev rCn8 (g : Fin 12) : Rect S96x256 := Rect.unit (s := S96x256) ![8 * g.val, 0] S8x256.size (inb_cn8 g)
abbrev rC (c : Fin 8) (h : Fin 2) : Rect S2048x96 :=
  Rect.unit (s := S2048x96) ![256 * c.val + 128 * h.val, 0] S128x96.size (inb_c c h)
abbrev rY1 (p : Fin 2) : Rect S2x768x256 := Rect.unit (s := S2x768x256) ![p.val, 0, 0] S1x768x256.size (inb_y1 p)
abbrev rW64 (b : Fin 3) : Rect S192x256 := Rect.unit (s := S192x256) ![64 * b.val, 0] S64x256.size (inb_w64 b)
abbrev rS32 (b : Fin 3) : Rect S96x128 := Rect.unit (s := S96x128) ![32 * b.val, 0] S32x128.size (inb_s32 b)
abbrev rCn32 (b : Fin 3) : Rect S96x256 := Rect.unit (s := S96x256) ![32 * b.val, 0] S32x256.size (inb_cn32 b)

theorem packed_y (p : Fin 2) (g : Fin 12) (w h : Fin 2) : (rY p g w h).PackedRows (EltTy.packing .fp8e4m3) := by
  revert p g w h; decide
theorem packed_o (c : Fin 8) : (rO c).PackedRows (EltTy.packing .bf16) := by revert c; decide
theorem packed_xp (b : Fin 3) : (rXp b).PackedRows (EltTy.packing .bf16) := by revert b; decide

/-- One word row's lookup, stored. -/
def word (p : Fin 2) (h : Fin 2) (v : IVec S96x128 32) (g : Fin 12) (w : Fin 2)
    (k : PR F nD τ sig Λ) : PR F nD τ sig Λ :=
  .op (.load A.w (rW8 g w).toLoadRect (View.loadsAt_vmem pos_S8x256)) fun (tab : Vec F S8x256 .i32) =>
  .op (.load A.y (rY p g w h).toLoadRect (View.loadsAt_vmem pos_S1x32x128)) fun (_ : Vec F S1x32x128 .fp8e4m3) =>
  .op (.store A.y (rY p g w h) (wordBytes (F := F) (code v g) tab) Finset.univ
    (View.stores_vmem pos_S1x32x128 (A.hy.storeExact_slice rfl _ (packed_y p g w h)) (fun _ => rfl)) (.inl rfl)) fun _ => k

/-- One group of eight subspaces: both word rows, and the squared norms added up. -/
def group (p : Fin 2) (h : Fin 2) (v : IVec S96x128 32) (g : Fin 12) (acc : FVec F S8x128 .f32)
    (k : FVec F S8x128 .f32 → PR F nD τ sig Λ) :
    PR F nD τ sig Λ :=
  word A p h v g 0 <| word A p h v g 1 <|
  .op (.load A.cn (rCn8 g).toLoadRect (View.loadsAt_vmem pos_S8x256)) fun (tab : Vec F S8x256 .f32) =>
  k (addf acc (look (code v g) tab))

/-- The groups from `g` on. -/
def groups (p : Fin 2) (h : Fin 2) (v : IVec S96x128 32)
    (k : FVec F S8x128 .f32 → PR F nD τ sig Λ) :
    (n g : Nat) → (g + n = 12) → FVec F S8x128 .f32 → PR F nD τ sig Λ
  | 0, _, _, acc => k acc
  | n + 1, g, hg, acc => group A p h v ⟨g, by omega⟩ acc fun acc => groups p h v k n (g + 1) (by omega) acc

/-- Half a chunk: 128 database vectors. -/
def half (c : Fin 8) (h : Fin 2) (k : FVec F S1x128 .f32 → PR F nD τ sig Λ) :
    PR F nD τ sig Λ :=
  .op (.load A.c (rC c h).toLoadRect (View.loadsAt_vmem pos_S128x96)) fun (v : Vec F S128x96 .i8) =>
  groups A (par c) h (codesT v) (fun acc => k (halfSum acc)) 12 0 rfl
    (broadcast S8x128 (Scalar.ofBits .f32 0x00000000#32))

/-- A chunk of 256 database vectors. -/
def chunk (c : Fin 8) (k : PR F nD τ sig Λ) :
    PR F nD τ sig Λ :=
  half A c 0 fun h0 => half A c 1 fun h1 =>
  .op (.load A.xs (rAllXs).toLoadRect (View.loadsAt_vmem pos_S256x768)) fun (xs : Vec F S256x768 .bf16) =>
  .op (.load A.y (rY1 (par c)).toLoadRect (View.loadsAt_vmem pos_S1x768x256)) fun (y : Vec F S1x768x256 .fp8e4m3) =>
  .op (.load A.xn (rAllXn).toLoadRect (View.loadsAt_vmem pos_S256x128)) fun (xn : Vec F S256x128 .f32) =>
  .op (.load A.o (rO c).toLoadRect (View.loadsAt_vmem pos_S250x256)) fun (_ : Vec F S250x256 .bf16) =>
  .op (.store A.o (rO c) (chunkOut h0 h1 xs y xn) Finset.univ
    (View.stores_vmem pos_S250x256 (A.ho.storeExact_slice rfl _ (packed_o c)) (fun _ => rfl)) (.inl rfl)) fun _ => k

/-- The chunks from `c` on. -/
def chunks (k : PR F nD τ sig Λ) :
    (n c : Nat) → (c + n = 8) → PR F nD τ sig Λ
  | 0, _, _ => k
  | n + 1, c, hc => chunk A ⟨c, by omega⟩ (chunks k n (c + 1) (by omega))

/-- A row of a block of `T`, stored. -/
def tRow (q : BitVec 32) (xnt : Vec F S96x128 .f32) (d : FVec F S128x256 .f32) (sc : Vec F S32x128 .f32)
    (cn : Vec F S32x256 .f32) (b : Fin 3) (j : Fin 4)
    (k : PR F nD τ sig Λ) : PR F nD τ sig Λ :=
  .op (.load A.t (rT j b).toLoadRect (View.loadsAt_vmem pos_S1x32x256)) fun (_ : Vec F S1x32x256 .f32) =>
  .op (.store A.t (rT j b) (tOut q xnt d sc cn b j) Finset.univ
    (View.stores_vmem_bits_univ pos_S1x32x256 rfl) (.inl rfl)) fun _ => k

/-- A block of 32 subspaces of the step's rows of `T`. -/
def tBlock (q : BitVec 32) (xrow : Vec F S8x768 .bf16) (xnt : Vec F S96x128 .f32) (b : Fin 3)
    (k : PR F nD τ sig Λ) : PR F nD τ sig Λ :=
  .op (.load A.w (rW64 b).toLoadRect (View.loadsAt_vmem pos_S64x256)) fun (w : Vec F S64x256 .i32) =>
  .op (.load A.s (rS32 b).toLoadRect (View.loadsAt_vmem pos_S32x128)) fun (sc : Vec F S32x128 .f32) =>
  .op (.load A.cn (rCn32 b).toLoadRect (View.loadsAt_vmem pos_S32x256)) fun (cn : Vec F S32x256 .f32) =>
  tRow A q xnt (dotTV q xrow w b) sc cn b 0 <| tRow A q xnt (dotTV q xrow w b) sc cn b 1 <|
  tRow A q xnt (dotTV q xrow w b) sc cn b 2 <| tRow A q xnt (dotTV q xrow w b) sc cn b 3 k

/-- The step's rows of `T`. -/
def tStage (n : BitVec 32) (off1 off2 : Fin 2 → Nat)
    (h1 : ∀ a, off1 a + S8x768.size a ≤ S256x768.size a) (h2 : ∀ a, off2 a + S96x128.size a ≤ S96x256.size a) :
    PR F nD τ sig Λ :=
  .op (.load A.xp (Rect.unit (s := S256x768) off1 S8x768.size h1).toLoadRect (View.loadsAt_vmem pos_S8x768)) fun (xrow : Vec F S8x768 .bf16) =>
  .op (.load A.xnorm (Rect.unit (s := S96x256) off2 S96x128.size h2).toLoadRect (View.loadsAt_vmem pos_S96x128)) fun (xnt : Vec F S96x128 .f32) =>
  tBlock A (q0 n) xrow xnt 0 <| tBlock A (q0 n) xrow xnt 1 <| tBlock A (q0 n) xrow xnt 2 <| .ret ⟨⟩

/-- A block of the first step's stores. -/
def initBlock (x : Vec F S250x768 .bf16) (s : Vec F S96x128 .f32) (b : Fin 3)
    (k : PR F nD τ sig Λ) : PR F nD τ sig Λ :=
  .op (.load A.xp (rXp b).toLoadRect (View.loadsAt_vmem pos_S256x256)) fun (_ : Vec F S256x256 .bf16) =>
  .op (.store A.xp (rXp b) (xpSt x b) Finset.univ
    (View.stores_vmem pos_S256x256 (A.hxp.storeExact_slice rfl _ (packed_xp b)) (fun _ => rfl)) (.inl rfl)) fun _ =>
  .op (.load A.xs (rXp b).toLoadRect (View.loadsAt_vmem pos_S256x256)) fun (_ : Vec F S256x256 .bf16) =>
  .op (.store A.xs (rXp b) (xsSt x s b) Finset.univ
    (View.stores_vmem pos_S256x256 (A.hxs.storeExact_slice rfl _ (packed_xp b)) (fun _ => rfl)) (.inl rfl)) fun _ => k

/-- The first step's filling of the scratch, and `k` after it. -/
def init (k : PR F nD τ sig Λ) : PR F nD τ sig Λ :=
  .op (.load A.x (rAllX).toLoadRect (View.loadsAt_vmem pos_S250x768)) fun (x : Vec F S250x768 .bf16) =>
  .op (.load A.s (rAllS).toLoadRect (View.loadsAt_vmem pos_S96x128)) fun (s : Vec F S96x128 .f32) =>
  initBlock A x s 0 <| initBlock A x s 1 <| initBlock A x s 2 <|
  .op (.load A.xnorm (rAll96).toLoadRect (View.loadsAt_vmem pos_S96x256)) fun (_ : Vec F S96x256 .f32) =>
  .op (.store A.xnorm rAll96 (shapeCast S96x256 (xnormV x) (by decide)) Finset.univ
    (View.stores_vmem_bits_univ pos_S96x256 rfl) (.inl rfl)) fun _ =>
  .op (.load A.xn (rAllXn).toLoadRect (View.loadsAt_vmem pos_S256x128)) fun (_ : Vec F S256x128 .f32) =>
  .op (.store A.xn rAllXn (xnV x) Finset.univ
    (View.stores_vmem_bits_univ pos_S256x128 rfl) (.inl rfl)) fun _ =>
  .op (.load A.w (rW64 0).toLoadRect (View.loadsAt_vmem pos_S64x256)) fun (w0 : Vec F S64x256 .i32) =>
  .op (.load A.w (rW64 1).toLoadRect (View.loadsAt_vmem pos_S64x256)) fun (w1 : Vec F S64x256 .i32) =>
  .op (.load A.w (rW64 2).toLoadRect (View.loadsAt_vmem pos_S64x256)) fun (w2 : Vec F S64x256 .i32) =>
  .op (.load A.cn (rAll96).toLoadRect (View.loadsAt_vmem pos_S96x256)) fun (_ : Vec F S96x256 .f32) =>
  .op (.store A.cn rAll96 (cnV w0 w1 w2 s) Finset.univ
    (View.stores_vmem_bits_univ pos_S96x256 rfl) (.inl rfl)) fun _ => k

/-- The step's work after the scratch is filled. -/
def rest (n : BitVec 32) (off1 off2 : Fin 2 → Nat)
    (h1 : ∀ a, off1 a + S8x768.size a ≤ S256x768.size a) (h2 : ∀ a, off2 a + S96x128.size a ≤ S96x256.size a) :
    PR F nD τ sig Λ :=
  chunks A (tStage A n off1 off2 h1 h2) 8 0 rfl

end PQ

end
-- ==== Proof.SameKI.lean ====
module

public import proofs.«01_k».proof.KernelIdeal
public import proofs.«01_k».proof.Proof.Gen.KernelIdeal
public import proofs.«01_k».proof.Proof.Body
public import Idealize.ShloMosaic.Lib.Tactic

/-! The idealized kernel's printed body is `PQ.body`. -/

@[expose] public section

set_option maxRecDepth 100000

noncomputable section

namespace Cert.KernelIdeal
open Idealize.ShloMosaic Idealize.SL.Sem Idealize.ShloMosaic.Tactic

variable {F : FTy → Type} [FloatOps F] [Facts]
open Facts₀ Facts

/-- The condition of the body's conditional: the first step. -/
abbrev isFirst (i : grid0.Coords) : Prop :=
  Scalar.cmpi .ne (Scalar.extui (Scalar.cmpi .eq (BitVec.ofNat 32 (i 0).val) 0#32) : BitVec 32) 0#32 = 1#1

theorem body_first (i : grid0.Coords) (A : PQ.Args sig) (hc : isFirst i) :
    cc0_pq_adc (F := F) i A.x A.hx A.w A.hw A.s A.hs A.c A.hc A.o A.ho A.t A.ht A.xp A.hxp A.xs A.hxs A.xn A.hxn
      A.xnorm A.hxnorm A.cn A.hcn A.y A.hy
    = PQ.init A (PQ.rest A (BitVec.ofNat 32 (i 0).val) (k0_off1 i) (k0_off2 i) (k0_off1_inb i) (k0_off2_inb i)) := by
  unfold cc0_pq_adc k0_part245 k0_part23
  simp only [dif_pos hc]
  sl_kernel_rfl

theorem body_next (i : grid0.Coords) (A : PQ.Args sig) (hc : ¬ isFirst i) :
    cc0_pq_adc (F := F) i A.x A.hx A.w A.hw A.s A.hs A.c A.hc A.o A.ho A.t A.ht A.xp A.hxp A.xs A.hxs A.xn A.hxn
      A.xnorm A.hxnorm A.cn A.hcn A.y A.hy
    = PQ.rest A (BitVec.ofNat 32 (i 0).val) (k0_off1 i) (k0_off2 i) (k0_off1_inb i) (k0_off2_inb i) := by
  unfold cc0_pq_adc k0_part245 k0_part23
  simp only [dif_neg hc]
  sl_kernel_rfl

end Cert.KernelIdeal
end
-- ==== Proof.Own.lean ====
module

public import proofs.«01_k».proof.Proof.Body
public import Idealize.ShloMosaic.Lib.Pipeline
public import Idealize.ShloMosaic.Lib.Writes
public import Idealize.ShloMosaic.Lib.Memref

/-!
Running the body over what its memrefs hold. `St A S R` owns the body's twelve memrefs at the contents `S`, beside a
rest `R`. A load continues at what the contents are on its rectangle; a store lays its payload over them. Each is stated
as "if the continuation runs from the state after, the program runs from the state before", so that a program is run by
composing these.
-/

@[expose] public section

noncomputable section

namespace PQ

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section SepAC

variable {M : Type _} [RA M]

/-- Separating conjunctions may be reordered. -/
theorem sepComm : _root_.Std.Commutative (α := sProp M) BIBase.sep :=
  ⟨fun P Q => _root_.Std.Commutative.comm (op := fun P Q : sProp M => BI.sep P Q) P Q⟩

theorem sepAssoc : _root_.Std.Associative (α := sProp M) BIBase.sep :=
  ⟨fun P Q R => _root_.Std.Associative.assoc (op := fun P Q : sProp M => BI.sep P Q) P Q R⟩

end SepAC

attribute [local instance] sepComm sepAssoc

/-- What the twelve memrefs hold. -/
structure State (F : FTy → Type) where
  x : Vec F S250x768 .bf16
  w : Vec F S192x256 .i32
  s : Vec F S96x128 .f32
  c : Vec F S2048x96 .i8
  o : Vec F S250x2048 .bf16
  t : Vec F S4x96x256 .f32
  xp : Vec F S256x768 .bf16
  xs : Vec F S256x768 .bf16
  xn : Vec F S256x128 .f32
  xnorm : Vec F S96x256 .f32
  cn : Vec F S96x256 .f32
  y : Vec F S2x768x256 .fp8e4m3

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load from an owned memref continues at what it reads there. -/
theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} (X : s.Idx → Val e) :
    (owns c m q X) ⊢ iprop((owns c m q X -∗ wp frame (wpE defs 𝒱 c bd) E (k fun i => X (r.emb i)) Q)
        -∗ wp frame (wpE defs 𝒱 c bd) E (.op (.load m r.toLoadRect hl) k) Q) := by
  unfold owns
  iintro ⟨%f, %hf, H⟩
  subst hf
  iintro Hk
  iapply (wp_load 𝒱 c bd E (k := k) (hl := hl) (S := m.view.set) (f := f) (q := q)
    (fun _ h => by obtain ⟨x, _, rfl⟩ := Finset.mem_map.mp h; exact Finset.mem_map_of_mem _ (Finset.mem_univ _))) $$ H
  iintro H
  iapply Hk
  iexists f
  isplitr
  · ipureintro; rfl
  iexact H

/-- A store into an owned memref lays its payload over what it holds. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} (X : s.Idx → Val e) :
    (owns c m fullShare X) ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩
  subst hf
  iintro Hk
  iapply (wp_store 𝒱 c bd E (Q := Q) (w := w) (hx := hx) (hm := hm) (k := k) (Mk := Finset.univ) (S := m.view.set) (f := f)
    (fun _ h => by
      obtain ⟨x, _, rfl⟩ := Finset.mem_map.mp h; exact Finset.mem_map_of_mem _ (Finset.mem_univ _))) $$ H
  iintro H
  iapply Hk
  iexists _
  isplitr
  · ipureintro
    funext j
    by_cases hj : j ∈ r.set
    · obtain ⟨i, rfl⟩ := r.exists_idx_of_mem hj
      change _ = r.overlay _ w (r.emb i)
      rw [Rect.overlay_emb]
      exact congrFun (View.read_write_univ (v := m.view.slice r) f w) i
    · rw [Rect.overlay_of_not_mem _ _ _ hj, View.read_apply, View.read_apply]
      congr 1
      apply View.write_of_not_mem
      intro h
      obtain ⟨x, -, hx⟩ := Finset.mem_map.mp h
      exact hj ((m.view.emb.injective (show m.view.emb (r.emb x) = m.view.emb j from hx)) ▸
        (r.map_emb_univ ▸ Finset.mem_map_of_mem _ (Finset.mem_univ x)))
  iexact H

variable {P P' Fr : sProp (MT nD τ sig Ix Val Name U Lvl)}

/-- The load where the memref is one part of the state. -/
theorem load_of {cs : CoreSpace} {m : Memref sig c.2.kind cs s e} {r : Rect s} {hl : m.view.LoadsAt r.toLoadRect}
    {k : (r.shape.Idx → Val e) → Prog (TpuEff nD τ sig Val Λ c.2) α} {X : s.Idx → Val e}
    (hP : P = iprop(owns c m fullShare X ∗ Fr))
    (h : P ⊢ wp frame (wpE defs 𝒱 c bd) E (k fun i => X (r.emb i)) Q) :
    P ⊢ wp frame (wpE defs 𝒱 c bd) E (.op (.load m r.toLoadRect hl) k) Q := by
  subst hP
  iintro ⟨H, HF⟩
  iapply (wp_load_owns 𝒱 c bd E X) $$ H
  iintro H
  iapply h
  isplitl [H]; · iexact H
  iexact HF

/-- The store where the memref is one part of the state. -/
theorem store_of {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e}
    (hP : P = iprop(owns c m fullShare X ∗ Fr)) (hP' : P' = iprop(owns c m fullShare (r.overlay X w) ∗ Fr))
    (h : P' ⊢ wp frame (wpE defs 𝒱 c bd) E (k ⟨⟩) Q) :
    P ⊢ wp frame (wpE defs 𝒱 c bd) E (.op (.store m r w Finset.univ hx hm) k) Q := by
  subst hP hP'
  iintro ⟨H, HF⟩
  iapply (wp_store_owns 𝒱 c bd E X) $$ H
  iintro H
  iapply h
  isplitl [H]; · iexact H
  iexact HF

end Rules

variable {F : FTy → Type}
variable {nD : Nat} {τ : Topo} {sig : RefSig} {Ix : Type} [DecidableEq Ix]
variable {Name : Type} [DecidableEq Name] {U : Type} [URA U]
variable {Lvl : Type} {Λ : Labels}
variable (d : Dev nD) (A : Args sig)

/-- The twelve memrefs owned at `S`, and `R`. -/
def St (S : State F) (R : sProp (MT nD τ sig Ix (Elt F) Name U Lvl)) : sProp (MT nD τ sig Ix (Elt F) Name U Lvl) :=
  iprop(owns (d : Thread nD τ) A.x fullShare S.x
    ∗ owns (d : Thread nD τ) A.w fullShare S.w
    ∗ owns (d : Thread nD τ) A.s fullShare S.s
    ∗ owns (d : Thread nD τ) A.c fullShare S.c
    ∗ owns (d : Thread nD τ) A.o fullShare S.o
    ∗ owns (d : Thread nD τ) A.t fullShare S.t
    ∗ owns (d : Thread nD τ) A.xp fullShare S.xp
    ∗ owns (d : Thread nD τ) A.xs fullShare S.xs
    ∗ owns (d : Thread nD τ) A.xn fullShare S.xn
    ∗ owns (d : Thread nD τ) A.xnorm fullShare S.xnorm
    ∗ owns (d : Thread nD τ) A.cn fullShare S.cn
    ∗ owns (d : Thread nD τ) A.y fullShare S.y ∗ R)

variable (S : State F) (R : sProp (MT nD τ sig Ix (Elt F) Name U Lvl))

theorem focus_x : ∃ Fr, ∀ X : Vec F S250x768 .bf16, St d A { S with x := X } R
    = iprop(owns (d : Thread nD τ) A.x fullShare X ∗ Fr) :=
  ⟨iprop(owns (d : Thread nD τ) A.w fullShare S.w ∗ owns (d : Thread nD τ) A.s fullShare S.s ∗ owns (d : Thread nD τ) A.c fullShare S.c ∗ owns (d : Thread nD τ) A.o fullShare S.o ∗ owns (d : Thread nD τ) A.t fullShare S.t ∗ owns (d : Thread nD τ) A.xp fullShare S.xp ∗ owns (d : Thread nD τ) A.xs fullShare S.xs ∗ owns (d : Thread nD τ) A.xn fullShare S.xn ∗ owns (d : Thread nD τ) A.xnorm fullShare S.xnorm ∗ owns (d : Thread nD τ) A.cn fullShare S.cn ∗ owns (d : Thread nD τ) A.y fullShare S.y ∗ R),
    fun X => rfl⟩

theorem focus_w : ∃ Fr, ∀ X : Vec F S192x256 .i32, St d A { S with w := X } R
    = iprop(owns (d : Thread nD τ) A.w fullShare X ∗ Fr) :=
  ⟨iprop(owns (d : Thread nD τ) A.x fullShare S.x ∗ owns (d : Thread nD τ) A.s fullShare S.s ∗ owns (d : Thread nD τ) A.c fullShare S.c ∗ owns (d : Thread nD τ) A.o fullShare S.o ∗ owns (d : Thread nD τ) A.t fullShare S.t ∗ owns (d : Thread nD τ) A.xp fullShare S.xp ∗ owns (d : Thread nD τ) A.xs fullShare S.xs ∗ owns (d : Thread nD τ) A.xn fullShare S.xn ∗ owns (d : Thread nD τ) A.xnorm fullShare S.xnorm ∗ owns (d : Thread nD τ) A.cn fullShare S.cn ∗ owns (d : Thread nD τ) A.y fullShare S.y ∗ R),
    fun X => by simp only [St]; ac_rfl⟩

theorem focus_s : ∃ Fr, ∀ X : Vec F S96x128 .f32, St d A { S with s := X } R
    = iprop(owns (d : Thread nD τ) A.s fullShare X ∗ Fr) :=
  ⟨iprop(owns (d : Thread nD τ) A.x fullShare S.x ∗ owns (d : Thread nD τ) A.w fullShare S.w ∗ owns (d : Thread nD τ) A.c fullShare S.c ∗ owns (d : Thread nD τ) A.o fullShare S.o ∗ owns (d : Thread nD τ) A.t fullShare S.t ∗ owns (d : Thread nD τ) A.xp fullShare S.xp ∗ owns (d : Thread nD τ) A.xs fullShare S.xs ∗ owns (d : Thread nD τ) A.xn fullShare S.xn ∗ owns (d : Thread nD τ) A.xnorm fullShare S.xnorm ∗ owns (d : Thread nD τ) A.cn fullShare S.cn ∗ owns (d : Thread nD τ) A.y fullShare S.y ∗ R),
    fun X => by simp only [St]; ac_rfl⟩

theorem focus_c : ∃ Fr, ∀ X : Vec F S2048x96 .i8, St d A { S with c := X } R
    = iprop(owns (d : Thread nD τ) A.c fullShare X ∗ Fr) :=
  ⟨iprop(owns (d : Thread nD τ) A.x fullShare S.x ∗ owns (d : Thread nD τ) A.w fullShare S.w ∗ owns (d : Thread nD τ) A.s fullShare S.s ∗ owns (d : Thread nD τ) A.o fullShare S.o ∗ owns (d : Thread nD τ) A.t fullShare S.t ∗ owns (d : Thread nD τ) A.xp fullShare S.xp ∗ owns (d : Thread nD τ) A.xs fullShare S.xs ∗ owns (d : Thread nD τ) A.xn fullShare S.xn ∗ owns (d : Thread nD τ) A.xnorm fullShare S.xnorm ∗ owns (d : Thread nD τ) A.cn fullShare S.cn ∗ owns (d : Thread nD τ) A.y fullShare S.y ∗ R),
    fun X => by simp only [St]; ac_rfl⟩

theorem focus_o : ∃ Fr, ∀ X : Vec F S250x2048 .bf16, St d A { S with o := X } R
    = iprop(owns (d : Thread nD τ) A.o fullShare X ∗ Fr) :=
  ⟨iprop(owns (d : Thread nD τ) A.x fullShare S.x ∗ owns (d : Thread nD τ) A.w fullShare S.w ∗ owns (d : Thread nD τ) A.s fullShare S.s ∗ owns (d : Thread nD τ) A.c fullShare S.c ∗ owns (d : Thread nD τ) A.t fullShare S.t ∗ owns (d : Thread nD τ) A.xp fullShare S.xp ∗ owns (d : Thread nD τ) A.xs fullShare S.xs ∗ owns (d : Thread nD τ) A.xn fullShare S.xn ∗ owns (d : Thread nD τ) A.xnorm fullShare S.xnorm ∗ owns (d : Thread nD τ) A.cn fullShare S.cn ∗ owns (d : Thread nD τ) A.y fullShare S.y ∗ R),
    fun X => by simp only [St]; ac_rfl⟩

theorem focus_t : ∃ Fr, ∀ X : Vec F S4x96x256 .f32, St d A { S with t := X } R
    = iprop(owns (d : Thread nD τ) A.t fullShare X ∗ Fr) :=
  ⟨iprop(owns (d : Thread nD τ) A.x fullShare S.x ∗ owns (d : Thread nD τ) A.w fullShare S.w ∗ owns (d : Thread nD τ) A.s fullShare S.s ∗ owns (d : Thread nD τ) A.c fullShare S.c ∗ owns (d : Thread nD τ) A.o fullShare S.o ∗ owns (d : Thread nD τ) A.xp fullShare S.xp ∗ owns (d : Thread nD τ) A.xs fullShare S.xs ∗ owns (d : Thread nD τ) A.xn fullShare S.xn ∗ owns (d : Thread nD τ) A.xnorm fullShare S.xnorm ∗ owns (d : Thread nD τ) A.cn fullShare S.cn ∗ owns (d : Thread nD τ) A.y fullShare S.y ∗ R),
    fun X => by simp only [St]; ac_rfl⟩

theorem focus_xp : ∃ Fr, ∀ X : Vec F S256x768 .bf16, St d A { S with xp := X } R
    = iprop(owns (d : Thread nD τ) A.xp fullShare X ∗ Fr) :=
  ⟨iprop(owns (d : Thread nD τ) A.x fullShare S.x ∗ owns (d : Thread nD τ) A.w fullShare S.w ∗ owns (d : Thread nD τ) A.s fullShare S.s ∗ owns (d : Thread nD τ) A.c fullShare S.c ∗ owns (d : Thread nD τ) A.o fullShare S.o ∗ owns (d : Thread nD τ) A.t fullShare S.t ∗ owns (d : Thread nD τ) A.xs fullShare S.xs ∗ owns (d : Thread nD τ) A.xn fullShare S.xn ∗ owns (d : Thread nD τ) A.xnorm fullShare S.xnorm ∗ owns (d : Thread nD τ) A.cn fullShare S.cn ∗ owns (d : Thread nD τ) A.y fullShare S.y ∗ R),
    fun X => by simp only [St]; ac_rfl⟩

theorem focus_xs : ∃ Fr, ∀ X : Vec F S256x768 .bf16, St d A { S with xs := X } R
    = iprop(owns (d : Thread nD τ) A.xs fullShare X ∗ Fr) :=
  ⟨iprop(owns (d : Thread nD τ) A.x fullShare S.x ∗ owns (d : Thread nD τ) A.w fullShare S.w ∗ owns (d : Thread nD τ) A.s fullShare S.s ∗ owns (d : Thread nD τ) A.c fullShare S.c ∗ owns (d : Thread nD τ) A.o fullShare S.o ∗ owns (d : Thread nD τ) A.t fullShare S.t ∗ owns (d : Thread nD τ) A.xp fullShare S.xp ∗ owns (d : Thread nD τ) A.xn fullShare S.xn ∗ owns (d : Thread nD τ) A.xnorm fullShare S.xnorm ∗ owns (d : Thread nD τ) A.cn fullShare S.cn ∗ owns (d : Thread nD τ) A.y fullShare S.y ∗ R),
    fun X => by simp only [St]; ac_rfl⟩

theorem focus_xn : ∃ Fr, ∀ X : Vec F S256x128 .f32, St d A { S with xn := X } R
    = iprop(owns (d : Thread nD τ) A.xn fullShare X ∗ Fr) :=
  ⟨iprop(owns (d : Thread nD τ) A.x fullShare S.x ∗ owns (d : Thread nD τ) A.w fullShare S.w ∗ owns (d : Thread nD τ) A.s fullShare S.s ∗ owns (d : Thread nD τ) A.c fullShare S.c ∗ owns (d : Thread nD τ) A.o fullShare S.o ∗ owns (d : Thread nD τ) A.t fullShare S.t ∗ owns (d : Thread nD τ) A.xp fullShare S.xp ∗ owns (d : Thread nD τ) A.xs fullShare S.xs ∗ owns (d : Thread nD τ) A.xnorm fullShare S.xnorm ∗ owns (d : Thread nD τ) A.cn fullShare S.cn ∗ owns (d : Thread nD τ) A.y fullShare S.y ∗ R),
    fun X => by simp only [St]; ac_rfl⟩

theorem focus_xnorm : ∃ Fr, ∀ X : Vec F S96x256 .f32, St d A { S with xnorm := X } R
    = iprop(owns (d : Thread nD τ) A.xnorm fullShare X ∗ Fr) :=
  ⟨iprop(owns (d : Thread nD τ) A.x fullShare S.x ∗ owns (d : Thread nD τ) A.w fullShare S.w ∗ owns (d : Thread nD τ) A.s fullShare S.s ∗ owns (d : Thread nD τ) A.c fullShare S.c ∗ owns (d : Thread nD τ) A.o fullShare S.o ∗ owns (d : Thread nD τ) A.t fullShare S.t ∗ owns (d : Thread nD τ) A.xp fullShare S.xp ∗ owns (d : Thread nD τ) A.xs fullShare S.xs ∗ owns (d : Thread nD τ) A.xn fullShare S.xn ∗ owns (d : Thread nD τ) A.cn fullShare S.cn ∗ owns (d : Thread nD τ) A.y fullShare S.y ∗ R),
    fun X => by simp only [St]; ac_rfl⟩

theorem focus_cn : ∃ Fr, ∀ X : Vec F S96x256 .f32, St d A { S with cn := X } R
    = iprop(owns (d : Thread nD τ) A.cn fullShare X ∗ Fr) :=
  ⟨iprop(owns (d : Thread nD τ) A.x fullShare S.x ∗ owns (d : Thread nD τ) A.w fullShare S.w ∗ owns (d : Thread nD τ) A.s fullShare S.s ∗ owns (d : Thread nD τ) A.c fullShare S.c ∗ owns (d : Thread nD τ) A.o fullShare S.o ∗ owns (d : Thread nD τ) A.t fullShare S.t ∗ owns (d : Thread nD τ) A.xp fullShare S.xp ∗ owns (d : Thread nD τ) A.xs fullShare S.xs ∗ owns (d : Thread nD τ) A.xn fullShare S.xn ∗ owns (d : Thread nD τ) A.xnorm fullShare S.xnorm ∗ owns (d : Thread nD τ) A.y fullShare S.y ∗ R),
    fun X => by simp only [St]; ac_rfl⟩

theorem focus_y : ∃ Fr, ∀ X : Vec F S2x768x256 .fp8e4m3, St d A { S with y := X } R
    = iprop(owns (d : Thread nD τ) A.y fullShare X ∗ Fr) :=
  ⟨iprop(owns (d : Thread nD τ) A.x fullShare S.x ∗ owns (d : Thread nD τ) A.w fullShare S.w ∗ owns (d : Thread nD τ) A.s fullShare S.s ∗ owns (d : Thread nD τ) A.c fullShare S.c ∗ owns (d : Thread nD τ) A.o fullShare S.o ∗ owns (d : Thread nD τ) A.t fullShare S.t ∗ owns (d : Thread nD τ) A.xp fullShare S.xp ∗ owns (d : Thread nD τ) A.xs fullShare S.xs ∗ owns (d : Thread nD τ) A.xn fullShare S.xn ∗ owns (d : Thread nD τ) A.xnorm fullShare S.xnorm ∗ owns (d : Thread nD τ) A.cn fullShare S.cn ∗ R),
    fun X => by simp only [St]; ac_rfl⟩

variable [Preorder Lvl] {defs : Defs nD τ sig (Elt F) Λ} {𝒱 : Variants} {bd : Option 𝒱.V} {E : Set Name}
variable {d A S R} {Q : PUnit → sProp (MT nD τ sig Ix (Elt F) Name U Lvl)}

theorem load_x {r : Rect S250x768} {hl : A.x.view.LoadsAt r.toLoadRect} {k : Vec F r.shape .bf16 → PR F nD τ sig Λ}
    (h : St d A S R ⊢ wp frame (wpE defs 𝒱 (d : Thread nD τ) bd) E (k fun i => S.x (r.emb i)) Q) :
    St d A S R ⊢ wp frame (wpE defs 𝒱 (d : Thread nD τ) bd) E (.op (.load A.x r.toLoadRect hl) k) Q := by
  obtain ⟨Fr, hF⟩ := focus_x d A S R
  exact load_of 𝒱 (d : Thread nD τ) bd E (hF S.x) h

theorem load_w {r : Rect S192x256} {hl : A.w.view.LoadsAt r.toLoadRect} {k : Vec F r.shape .i32 → PR F nD τ sig Λ}
    (h : St d A S R ⊢ wp frame (wpE defs 𝒱 (d : Thread nD τ) bd) E (k fun i => S.w (r.emb i)) Q) :
    St d A S R ⊢ wp frame (wpE defs 𝒱 (d : Thread nD τ) bd) E (.op (.load A.w r.toLoadRect hl) k) Q := by
  obtain ⟨Fr, hF⟩ := focus_w d A S R
  exact load_of 𝒱 (d : Thread nD τ) bd E (hF S.w) h

theorem load_s {r : Rect S96x128} {hl : A.s.view.LoadsAt r.toLoadRect} {k : Vec F r.shape .f32 → PR F nD τ sig Λ}
    (h : St d A S R ⊢ wp frame (wpE defs 𝒱 (d : Thread nD τ) bd) E (k fun i => S.s (r.emb i)) Q) :
    St d A S R ⊢ wp frame (wpE defs 𝒱 (d : Thread nD τ) bd) E (.op (.load A.s r.toLoadRect hl) k) Q := by
  obtain ⟨Fr, hF⟩ := focus_s d A S R
  exact load_of 𝒱 (d : Thread nD τ) bd E (hF S.s) h

theorem load_c {r : Rect S2048x96} {hl : A.c.view.LoadsAt r.toLoadRect} {k : Vec F r.shape .i8 → PR F nD τ sig Λ}
    (h : St d A S R ⊢ wp frame (wpE defs 𝒱 (d : Thread nD τ) bd) E (k fun i => S.c (r.emb i)) Q) :
    St d A S R ⊢ wp frame (wpE defs 𝒱 (d : Thread nD τ) bd) E (.op (.load A.c r.toLoadRect hl) k) Q := by
  obtain ⟨Fr, hF⟩ := focus_c d A S R
  exact load_of 𝒱 (d : Thread nD τ) bd E (hF S.c) h

theorem load_o {r : Rect S250x2048} {hl : A.o.view.LoadsAt r.toLoadRect} {k : Vec F r.shape .bf16 → PR F nD τ sig Λ}
    (h : St d A S R ⊢ wp frame (wpE defs 𝒱 (d : Thread nD τ) bd) E (k fun i => S.o (r.emb i)) Q) :
    St d A S R ⊢ wp frame (wpE defs 𝒱 (d : Thread nD τ) bd) E (.op (.load A.o r.toLoadRect hl) k) Q := by
  obtain ⟨Fr, hF⟩ := focus_o d A S R
  exact load_of 𝒱 (d : Thread nD τ) bd E (hF S.o) h

theorem load_t {r : Rect S4x96x256} {hl : A.t.view.LoadsAt r.toLoadRect} {k : Vec F r.shape .f32 → PR F nD τ sig Λ}
    (h : St d A S R ⊢ wp frame (wpE defs 𝒱 (d : Thread nD τ) bd) E (k fun i => S.t (r.emb i)) Q) :
    St d A S R ⊢ wp frame (wpE defs 𝒱 (d : Thread nD τ) bd) E (.op (.load A.t r.toLoadRect hl) k) Q := by
  obtain ⟨Fr, hF⟩ := focus_t d A S R
  exact load_of 𝒱 (d : Thread nD τ) bd E (hF S.t) h

theorem load_xp {r : Rect S256x768} {hl : A.xp.view.LoadsAt r.toLoadRect} {k : Vec F r.shape .bf16 → PR F nD τ sig Λ}
    (h : St d A S R ⊢ wp frame (wpE defs 𝒱 (d : Thread nD τ) bd) E (k fun i => S.xp (r.emb i)) Q) :
    St d A S R ⊢ wp frame (wpE defs 𝒱 (d : Thread nD τ) bd) E (.op (.load A.xp r.toLoadRect hl) k) Q := by
  obtain ⟨Fr, hF⟩ := focus_xp d A S R
  exact load_of 𝒱 (d : Thread nD τ) bd E (hF S.xp) h

theorem load_xs {r : Rect S256x768} {hl : A.xs.view.LoadsAt r.toLoadRect} {k : Vec F r.shape .bf16 → PR F nD τ sig Λ}
    (h : St d A S R ⊢ wp frame (wpE defs 𝒱 (d : Thread nD τ) bd) E (k fun i => S.xs (r.emb i)) Q) :
    St d A S R ⊢ wp frame (wpE defs 𝒱 (d : Thread nD τ) bd) E (.op (.load A.xs r.toLoadRect hl) k) Q := by
  obtain ⟨Fr, hF⟩ := focus_xs d A S R
  exact load_of 𝒱 (d : Thread nD τ) bd E (hF S.xs) h

theorem load_xn {r : Rect S256x128} {hl : A.xn.view.LoadsAt r.toLoadRect} {k : Vec F r.shape .f32 → PR F nD τ sig Λ}
    (h : St d A S R ⊢ wp frame (wpE defs 𝒱 (d : Thread nD τ) bd) E (k fun i => S.xn (r.emb i)) Q) :
    St d A S R ⊢ wp frame (wpE defs 𝒱 (d : Thread nD τ) bd) E (.op (.load A.xn r.toLoadRect hl) k) Q := by
  obtain ⟨Fr, hF⟩ := focus_xn d A S R
  exact load_of 𝒱 (d : Thread nD τ) bd E (hF S.xn) h

theorem load_xnorm {r : Rect S96x256} {hl : A.xnorm.view.LoadsAt r.toLoadRect} {k : Vec F r.shape .f32 → PR F nD τ sig Λ}
    (h : St d A S R ⊢ wp frame (wpE defs 𝒱 (d : Thread nD τ) bd) E (k fun i => S.xnorm (r.emb i)) Q) :
    St d A S R ⊢ wp frame (wpE defs 𝒱 (d : Thread nD τ) bd) E (.op (.load A.xnorm r.toLoadRect hl) k) Q := by
  obtain ⟨Fr, hF⟩ := focus_xnorm d A S R
  exact load_of 𝒱 (d : Thread nD τ) bd E (hF S.xnorm) h

theorem load_cn {r : Rect S96x256} {hl : A.cn.view.LoadsAt r.toLoadRect} {k : Vec F r.shape .f32 → PR F nD τ sig Λ}
    (h : St d A S R ⊢ wp frame (wpE defs 𝒱 (d : Thread nD τ) bd) E (k fun i => S.cn (r.emb i)) Q) :
    St d A S R ⊢ wp frame (wpE defs 𝒱 (d : Thread nD τ) bd) E (.op (.load A.cn r.toLoadRect hl) k) Q := by
  obtain ⟨Fr, hF⟩ := focus_cn d A S R
  exact load_of 𝒱 (d : Thread nD τ) bd E (hF S.cn) h

theorem load_y {r : Rect S2x768x256} {hl : A.y.view.LoadsAt r.toLoadRect} {k : Vec F r.shape .fp8e4m3 → PR F nD τ sig Λ}
    (h : St d A S R ⊢ wp frame (wpE defs 𝒱 (d : Thread nD τ) bd) E (k fun i => S.y (r.emb i)) Q) :
    St d A S R ⊢ wp frame (wpE defs 𝒱 (d : Thread nD τ) bd) E (.op (.load A.y r.toLoadRect hl) k) Q := by
  obtain ⟨Fr, hF⟩ := focus_y d A S R
  exact load_of 𝒱 (d : Thread nD τ) bd E (hF S.y) h

theorem store_o {r : Rect S250x2048} {w : Vec F r.shape .bf16} {hx : (A.o.access r).Stores Finset.univ}
    {hm : Finset.univ = Finset.univ ∨ ∀ a, r.stride a = 1} {k : PUnit → PR F nD τ sig Λ}
    (h : St d A { S with o := r.overlay S.o w } R ⊢ wp frame (wpE defs 𝒱 (d : Thread nD τ) bd) E (k ⟨⟩) Q) :
    St d A S R ⊢ wp frame (wpE defs 𝒱 (d : Thread nD τ) bd) E (.op (.store A.o r w Finset.univ hx hm) k) Q := by
  obtain ⟨Fr, hF⟩ := focus_o d A S R
  exact store_of 𝒱 (d : Thread nD τ) bd E (hF S.o) (hF _) h

theorem store_t {r : Rect S4x96x256} {w : Vec F r.shape .f32} {hx : (A.t.access r).Stores Finset.univ}
    {hm : Finset.univ = Finset.univ ∨ ∀ a, r.stride a = 1} {k : PUnit → PR F nD τ sig Λ}
    (h : St d A { S with t := r.overlay S.t w } R ⊢ wp frame (wpE defs 𝒱 (d : Thread nD τ) bd) E (k ⟨⟩) Q) :
    St d A S R ⊢ wp frame (wpE defs 𝒱 (d : Thread nD τ) bd) E (.op (.store A.t r w Finset.univ hx hm) k) Q := by
  obtain ⟨Fr, hF⟩ := focus_t d A S R
  exact store_of 𝒱 (d : Thread nD τ) bd E (hF S.t) (hF _) h

theorem store_xp {r : Rect S256x768} {w : Vec F r.shape .bf16} {hx : (A.xp.access r).Stores Finset.univ}
    {hm : Finset.univ = Finset.univ ∨ ∀ a, r.stride a = 1} {k : PUnit → PR F nD τ sig Λ}
    (h : St d A { S with xp := r.overlay S.xp w } R ⊢ wp frame (wpE defs 𝒱 (d : Thread nD τ) bd) E (k ⟨⟩) Q) :
    St d A S R ⊢ wp frame (wpE defs 𝒱 (d : Thread nD τ) bd) E (.op (.store A.xp r w Finset.univ hx hm) k) Q := by
  obtain ⟨Fr, hF⟩ := focus_xp d A S R
  exact store_of 𝒱 (d : Thread nD τ) bd E (hF S.xp) (hF _) h

theorem store_xs {r : Rect S256x768} {w : Vec F r.shape .bf16} {hx : (A.xs.access r).Stores Finset.univ}
    {hm : Finset.univ = Finset.univ ∨ ∀ a, r.stride a = 1} {k : PUnit → PR F nD τ sig Λ}
    (h : St d A { S with xs := r.overlay S.xs w } R ⊢ wp frame (wpE defs 𝒱 (d : Thread nD τ) bd) E (k ⟨⟩) Q) :
    St d A S R ⊢ wp frame (wpE defs 𝒱 (d : Thread nD τ) bd) E (.op (.store A.xs r w Finset.univ hx hm) k) Q := by
  obtain ⟨Fr, hF⟩ := focus_xs d A S R
  exact store_of 𝒱 (d : Thread nD τ) bd E (hF S.xs) (hF _) h

theorem store_xn {r : Rect S256x128} {w : Vec F r.shape .f32} {hx : (A.xn.access r).Stores Finset.univ}
    {hm : Finset.univ = Finset.univ ∨ ∀ a, r.stride a = 1} {k : PUnit → PR F nD τ sig Λ}
    (h : St d A { S with xn := r.overlay S.xn w } R ⊢ wp frame (wpE defs 𝒱 (d : Thread nD τ) bd) E (k ⟨⟩) Q) :
    St d A S R ⊢ wp frame (wpE defs 𝒱 (d : Thread nD τ) bd) E (.op (.store A.xn r w Finset.univ hx hm) k) Q := by
  obtain ⟨Fr, hF⟩ := focus_xn d A S R
  exact store_of 𝒱 (d : Thread nD τ) bd E (hF S.xn) (hF _) h

theorem store_xnorm {r : Rect S96x256} {w : Vec F r.shape .f32} {hx : (A.xnorm.access r).Stores Finset.univ}
    {hm : Finset.univ = Finset.univ ∨ ∀ a, r.stride a = 1} {k : PUnit → PR F nD τ sig Λ}
    (h : St d A { S with xnorm := r.overlay S.xnorm w } R ⊢ wp frame (wpE defs 𝒱 (d : Thread nD τ) bd) E (k ⟨⟩) Q) :
    St d A S R ⊢ wp frame (wpE defs 𝒱 (d : Thread nD τ) bd) E (.op (.store A.xnorm r w Finset.univ hx hm) k) Q := by
  obtain ⟨Fr, hF⟩ := focus_xnorm d A S R
  exact store_of 𝒱 (d : Thread nD τ) bd E (hF S.xnorm) (hF _) h

theorem store_cn {r : Rect S96x256} {w : Vec F r.shape .f32} {hx : (A.cn.access r).Stores Finset.univ}
    {hm : Finset.univ = Finset.univ ∨ ∀ a, r.stride a = 1} {k : PUnit → PR F nD τ sig Λ}
    (h : St d A { S with cn := r.overlay S.cn w } R ⊢ wp frame (wpE defs 𝒱 (d : Thread nD τ) bd) E (k ⟨⟩) Q) :
    St d A S R ⊢ wp frame (wpE defs 𝒱 (d : Thread nD τ) bd) E (.op (.store A.cn r w Finset.univ hx hm) k) Q := by
  obtain ⟨Fr, hF⟩ := focus_cn d A S R
  exact store_of 𝒱 (d : Thread nD τ) bd E (hF S.cn) (hF _) h

theorem store_y {r : Rect S2x768x256} {w : Vec F r.shape .fp8e4m3} {hx : (A.y.access r).Stores Finset.univ}
    {hm : Finset.univ = Finset.univ ∨ ∀ a, r.stride a = 1} {k : PUnit → PR F nD τ sig Λ}
    (h : St d A { S with y := r.overlay S.y w } R ⊢ wp frame (wpE defs 𝒱 (d : Thread nD τ) bd) E (k ⟨⟩) Q) :
    St d A S R ⊢ wp frame (wpE defs 𝒱 (d : Thread nD τ) bd) E (.op (.store A.y r w Finset.univ hx hm) k) Q := by
  obtain ⟨Fr, hF⟩ := focus_y d A S R
  exact store_of 𝒱 (d : Thread nD τ) bd E (hF S.y) (hF _) h

end PQ

end
-- ==== Proof.Steps.lean ====
module

public import proofs.«01_k».proof.Proof.Own
public import Idealize.ShloMosaic.Lib.ValueIdxCore
public import Idealize.ShloMosaic.Lib.VecWindow
public import Idealize.ShloMosaic.Lib.Pipeline.ValueKit.Geometry

/-!
What a run of the body leaves in each memref, as plain functions of what it finds: the half chunk's looked-up bytes,
the chunk's scores, the block of scores, the step's block of `T`, and the scratch the first step fills.
-/

@[expose] public section

noncomputable section

namespace PQ

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

/-- A value laid over a unit-stride rectangle, at an index: the payload inside, what was there outside. -/
theorem overlay_in {s : Shape} {α : Type} {off size : Fin s.rank → Nat} {inb} (X : s.Idx → α)
    (G : (Rect.unit (s := s) off size inb).shape.Idx → α) (j : s.Idx) (i : (Rect.unit (s := s) off size inb).shape.Idx)
    (h : ∀ a, (j a : Nat) = off a + (i a : Nat)) : (Rect.unit (s := s) off size inb).overlay X G j = G i := by
  have : j = (Rect.unit (s := s) off size inb).emb i := by
    funext a; apply Fin.ext; rw [ValueKit.rect_emb_unit_val]; exact h a
  rw [this, Rect.overlay_emb]

theorem overlay_out {s : Shape} {α : Type} {off size : Fin s.rank → Nat} {inb} (X : s.Idx → α)
    (G : (Rect.unit (s := s) off size inb).shape.Idx → α) (j : s.Idx) (a : Fin s.rank)
    (h : (j a : Nat) < off a ∨ off a + size a ≤ (j a : Nat)) :
    (Rect.unit (s := s) off size inb).overlay X G j = X j := by
  apply Rect.overlay_of_not_mem
  intro hj
  obtain ⟨i, rfl⟩ := (Rect.unit (s := s) off size inb).exists_idx_of_mem hj
  have h2 := ValueKit.rect_emb_unit_val off size inb i a
  change ((Rect.unit off size inb).emb i a : Nat) < _ ∨ _ at h
  have h3 : (i a : Nat) < size a := (i a).isLt
  change _ ∨ _ ≤ ((Rect.unit off size inb).emb i a : Nat) at h
  omega

variable {F : FTy → Type} [FloatOps F]

/-! ## The looked-up bytes -/

/-- The word rows of group `g`, half-word `w`. -/
def wTab (W : Vec F S192x256 .i32) (g : Fin 12) (w : Fin 2) : Vec F S8x256 .i32 := fun i => W ((rW8 g w).emb i)
/-- The squared norms of group `g`. -/
def cnTab (C : Vec F S96x256 .f32) (g : Fin 12) : Vec F S8x256 .f32 := fun i => C ((rCn8 g).emb i)
/-- The codes of half `h` of chunk `c`. -/
def cTab (D : Vec F S2048x96 .i8) (c : Fin 8) (h : Fin 2) : Vec F S128x96 .i8 := fun i => D ((rC c h).emb i)

def yWord (W : Vec F S192x256 .i32) (p h : Fin 2) (v : IVec S96x128 32) (g : Fin 12) (w : Fin 2)
    (Y : Vec F S2x768x256 .fp8e4m3) : Vec F S2x768x256 .fp8e4m3 :=
  (rY p g w h).overlay Y (wordBytes (F := F) (code v g) (wTab W g w))

/-- The two-chunk buffer after the groups from `g` on. -/
def yGroups (W : Vec F S192x256 .i32) (p h : Fin 2) (v : IVec S96x128 32) :
    (n g : Nat) → (g + n = 12) → Vec F S2x768x256 .fp8e4m3 → Vec F S2x768x256 .fp8e4m3
  | 0, _, _, Y => Y
  | n + 1, g, hg, Y => yGroups W p h v n (g + 1) (by omega)
      (yWord W p h v ⟨g, by omega⟩ 1 (yWord W p h v ⟨g, by omega⟩ 0 Y))

/-- The norms added up over the groups from `g` on. -/
def accGroups (C : Vec F S96x256 .f32) (v : IVec S96x128 32) :
    (n g : Nat) → (g + n = 12) → FVec F S8x128 .f32 → FVec F S8x128 .f32
  | 0, _, _, acc => acc
  | n + 1, g, hg, acc => accGroups C v n (g + 1) (by omega)
      (addf acc (look (code v ⟨g, by omega⟩) (cnTab C ⟨g, by omega⟩)))

/-- What the half chunk's row `r` holds at lane `l`: the looked-up word's byte. -/
def byteAt (W : Vec F S192x256 .i32) (v : IVec S96x128 32) (r : Fin 768) (l : Fin 128) : Elt F .fp8e4m3 :=
  wordBytes (F := F) (code v ⟨r.val / 64, by omega⟩)
    (wTab W ⟨r.val / 64, by omega⟩ ⟨r.val / 32 % 2, Nat.mod_lt _ (by decide)⟩)
    (ix3 0 ⟨r.val % 32, Nat.mod_lt _ (by decide)⟩ l)

theorem yWord_in (W : Vec F S192x256 .i32) (p h : Fin 2) (v : IVec S96x128 32) (g : Fin 12) (w : Fin 2)
    (Y : Vec F S2x768x256 .fp8e4m3) (r : Fin 768) (l : Fin 256)
    (hr : 64 * g.val + 32 * w.val ≤ r.val ∧ r.val < 64 * g.val + 32 * w.val + 32) (hl : l.val / 128 = h.val) :
    yWord W p h v g w Y (ix3 p r l) = byteAt W v r ⟨l.val % 128, Nat.mod_lt _ (by decide)⟩ := by
  have hg : (⟨r.val / 64, by omega⟩ : Fin 12) = g := Fin.ext (by show r.val / 64 = g.val; omega)
  have hw : (⟨r.val / 32 % 2, Nat.mod_lt _ (by decide)⟩ : Fin 2) = w := Fin.ext (by show r.val / 32 % 2 = w.val; omega)
  unfold yWord byteAt
  rw [hg, hw]
  refine overlay_in (s := S2x768x256) _ _ _ (ix3 0 ⟨r.val % 32, Nat.mod_lt _ (by decide)⟩ ⟨l.val % 128, Nat.mod_lt _ (by decide)⟩) ?_
  intro a
  match a with
  | ⟨0, _⟩ => rfl
  | ⟨1, _⟩ => show r.val = 64 * g.val + 32 * w.val + r.val % 32; omega
  | ⟨2, _⟩ => show l.val = 128 * h.val + l.val % 128; omega

theorem yWord_row (W : Vec F S192x256 .i32) (p h : Fin 2) (v : IVec S96x128 32) (g : Fin 12) (w : Fin 2)
    (Y : Vec F S2x768x256 .fp8e4m3) (q : Fin 2) (r : Fin 768) (l : Fin 256)
    (hr : r.val < 64 * g.val + 32 * w.val ∨ 64 * g.val + 32 * w.val + 32 ≤ r.val) :
    yWord W p h v g w Y (ix3 q r l) = Y (ix3 q r l) :=
  overlay_out (s := S2x768x256) _ _ _ 1 hr

theorem yWord_lane (W : Vec F S192x256 .i32) (p h : Fin 2) (v : IVec S96x128 32) (g : Fin 12) (w : Fin 2)
    (Y : Vec F S2x768x256 .fp8e4m3) (q : Fin 2) (r : Fin 768) (l : Fin 256) (hl : l.val / 128 ≠ h.val) :
    yWord W p h v g w Y (ix3 q r l) = Y (ix3 q r l) :=
  overlay_out (s := S2x768x256) _ _ _ 2 (by
    show l.val < 128 * h.val ∨ 128 * h.val + 128 ≤ l.val
    omega)

/-- Rows before group `g` keep what they held; -/
theorem yGroups_before (W : Vec F S192x256 .i32) (p h : Fin 2) (v : IVec S96x128 32) (n g : Nat) (hg : g + n = 12)
    (Y : Vec F S2x768x256 .fp8e4m3) (q : Fin 2) (r : Fin 768) (l : Fin 256) (hr : r.val < 64 * g) :
    yGroups W p h v n g hg Y (ix3 q r l) = Y (ix3 q r l) := by
  induction n generalizing g Y with
  | zero => rfl
  | succ n ih =>
    rw [yGroups, ih _ _ _ (by omega), yWord_row _ _ _ _ _ _ _ _ _ _ (.inl (by
      show r.val < 64 * g + 32 * 1; omega)), yWord_row _ _ _ _ _ _ _ _ _ _ (.inl (by
      show r.val < 64 * g + 32 * 0; omega))]

/-- lanes of the other half too; -/
theorem yGroups_lane (W : Vec F S192x256 .i32) (p h : Fin 2) (v : IVec S96x128 32) (n g : Nat) (hg : g + n = 12)
    (Y : Vec F S2x768x256 .fp8e4m3) (q : Fin 2) (r : Fin 768) (l : Fin 256) (hl : l.val / 128 ≠ h.val) :
    yGroups W p h v n g hg Y (ix3 q r l) = Y (ix3 q r l) := by
  induction n generalizing g Y with
  | zero => rfl
  | succ n ih => rw [yGroups, ih, yWord_lane _ _ _ _ _ _ _ _ _ _ hl, yWord_lane _ _ _ _ _ _ _ _ _ _ hl]

/-- the rows from group `g` on hold the looked-up bytes. -/
theorem yGroups_in (W : Vec F S192x256 .i32) (p h : Fin 2) (v : IVec S96x128 32) (n g : Nat) (hg : g + n = 12)
    (Y : Vec F S2x768x256 .fp8e4m3) (r : Fin 768) (l : Fin 256) (hr : 64 * g ≤ r.val) (hl : l.val / 128 = h.val) :
    yGroups W p h v n g hg Y (ix3 p r l) = byteAt W v r ⟨l.val % 128, Nat.mod_lt _ (by decide)⟩ := by
  induction n generalizing g Y with
  | zero => omega
  | succ n ih =>
    rw [yGroups]
    by_cases h1 : 64 * (g + 1) ≤ r.val
    · exact ih _ _ _ h1
    rw [yGroups_before _ _ _ _ _ _ _ _ _ _ _ (by omega)]
    by_cases h2 : 64 * g + 32 ≤ r.val
    · exact yWord_in _ _ _ _ _ _ _ _ _ ⟨by show 64 * g + 32 * 1 ≤ _; omega, by show _ < 64 * g + 32 * 1 + 32; omega⟩ hl
    rw [yWord_row _ _ _ _ _ _ _ _ _ _ (.inl (by show _ < 64 * g + 32 * 1; omega))]
    exact yWord_in _ _ _ _ _ _ _ _ _ ⟨by show 64 * g + 32 * 0 ≤ _; omega, by show _ < 64 * g + 32 * 0 + 32; omega⟩ hl

/-- The two-chunk buffer after half `h` of chunk `c`. -/
def yHalf (W : Vec F S192x256 .i32) (D : Vec F S2048x96 .i8) (c : Fin 8) (h : Fin 2) (Y : Vec F S2x768x256 .fp8e4m3) :
    Vec F S2x768x256 .fp8e4m3 :=
  yGroups W (par c) h (codesT (cTab D c h)) 12 0 rfl Y

/-- Half a chunk's sums of norms. -/
def normHalf (C : Vec F S96x256 .f32) (D : Vec F S2048x96 .i8) (c : Fin 8) (h : Fin 2) : FVec F S1x128 .f32 :=
  halfSum (accGroups C (codesT (cTab D c h)) 12 0 rfl (broadcast S8x128 (Scalar.ofBits .f32 0x00000000#32)))

/-- A chunk's looked-up bytes. -/
def yChunk (W : Vec F S192x256 .i32) (D : Vec F S2048x96 .i8) (c : Fin 8) : Vec F S1x768x256 .fp8e4m3 :=
  fun j => byteAt W (codesT (cTab D c ⟨(j 2).val / 128, Nat.div_lt_of_lt_mul (j 2).isLt⟩)) (j 1)
    ⟨(j 2).val % 128, Nat.mod_lt _ (by decide)⟩

theorem yHalves_apply (W : Vec F S192x256 .i32) (D : Vec F S2048x96 .i8) (c : Fin 8) (Y : Vec F S2x768x256 .fp8e4m3)
    (r : Fin 768) (l : Fin 256) : yHalf W D c 1 (yHalf W D c 0 Y) (ix3 (par c) r l)
      = byteAt W (codesT (cTab D c ⟨l.val / 128, Nat.div_lt_of_lt_mul l.isLt⟩)) r
        ⟨l.val % 128, Nat.mod_lt _ (by decide)⟩ := by
  unfold yHalf
  by_cases h : l.val / 128 = 1
  · have h' : (⟨l.val / 128, Nat.div_lt_of_lt_mul l.isLt⟩ : Fin 2) = 1 := Fin.ext h
    rw [yGroups_in _ _ _ _ _ _ _ _ r l (by omega) h, h']
  · have h0 : l.val / 128 = 0 := by omega
    have h' : (⟨l.val / 128, Nat.div_lt_of_lt_mul l.isLt⟩ : Fin 2) = 0 := Fin.ext h0
    rw [yGroups_lane _ _ _ _ _ _ _ _ _ r l h, yGroups_in _ _ _ _ _ _ _ _ r l (by omega) h0, h']

theorem yHalves (W : Vec F S192x256 .i32) (D : Vec F S2048x96 .i8) (c : Fin 8) (Y : Vec F S2x768x256 .fp8e4m3) :
    (fun i => yHalf W D c 1 (yHalf W D c 0 Y) ((rY1 (par c)).emb i)) = yChunk W D c := by
  funext (i : S1x768x256.Idx)
  have hi : (rY1 (par c)).emb i = ix3 (par c) (i 1) (i 2) := by
    funext a
    apply Fin.ext
    rw [ValueKit.rect_emb_unit_val]
    match a with
    | ⟨0, _⟩ => show (par c).val + (i 0).val = (par c).val; have : (i 0).val < 1 := (i 0).isLt; omega
    | ⟨1, _⟩ => exact Nat.zero_add _
    | ⟨2, _⟩ => exact Nat.zero_add _
  exact (congrArg _ hi).trans (yHalves_apply W D c Y (i 1) (i 2))

/-! ## The scores -/

/-- A chunk's scores. -/
def scChunk (W : Vec F S192x256 .i32) (D : Vec F S2048x96 .i8) (C : Vec F S96x256 .f32) (Xs : Vec F S256x768 .bf16)
    (Xn : Vec F S256x128 .f32) (c : Fin 8) : FVec F S250x256 .bf16 :=
  chunkOut (normHalf C D c 0) (normHalf C D c 1) Xs (yChunk W D c) Xn

def oChunks (f : Fin 8 → FVec F S250x256 .bf16) :
    (n c : Nat) → (c + n = 8) → Vec F S250x2048 .bf16 → Vec F S250x2048 .bf16
  | 0, _, _, O => O
  | n + 1, c, hc, O => oChunks f n (c + 1) (by omega) ((rO ⟨c, by omega⟩).overlay O (f ⟨c, by omega⟩))

/-- A block of scores from its chunks. -/
def oAll (f : Fin 8 → FVec F S250x256 .bf16) : Vec F S250x2048 .bf16 :=
  fun j => f ⟨(j 1).val / 256, Nat.div_lt_of_lt_mul (j 1).isLt⟩
    (ix2 (j 0) ⟨(j 1).val % 256, Nat.mod_lt _ (by decide)⟩)

theorem oChunks_before (f : Fin 8 → FVec F S250x256 .bf16) (n c : Nat) (hc : c + n = 8) (O : Vec F S250x2048 .bf16)
    (j : S250x2048.Idx) (hj : (j 1).val < 256 * c) : oChunks f n c hc O j = O j := by
  induction n generalizing c O with
  | zero => rfl
  | succ n ih =>
    rw [oChunks, ih _ _ _ (by omega)]
    exact overlay_out (s := S250x2048) _ _ _ 1 (.inl hj)

theorem oChunks_in (f : Fin 8 → FVec F S250x256 .bf16) (n c : Nat) (hc : c + n = 8) (O : Vec F S250x2048 .bf16)
    (j : S250x2048.Idx) (hj : 256 * c ≤ (j 1).val) : oChunks f n c hc O j = oAll f j := by
  have hlt : (j 1).val < 2048 := (j 1).isLt
  induction n generalizing c O with
  | zero => omega
  | succ n ih =>
    rw [oChunks]
    by_cases h : 256 * (c + 1) ≤ (j 1).val
    · exact ih _ _ _ h
    rw [oChunks_before _ _ _ _ _ _ (by omega)]
    unfold oAll
    have hq : (⟨(j 1).val / 256, Nat.div_lt_of_lt_mul (j 1).isLt⟩ : Fin 8) = ⟨c, by omega⟩ :=
      Fin.ext (by show (j 1).val / 256 = c; omega)
    rw [hq]
    refine overlay_in (s := S250x2048) _ _ _ (ix2 (j 0) ⟨(j 1).val % 256, Nat.mod_lt _ (by decide)⟩) ?_
    intro a
    match a with
    | ⟨0, _⟩ => exact (Nat.zero_add _).symm
    | ⟨1, _⟩ => show (j 1).val = 256 * c + (j 1).val % 256; omega

theorem oChunks_all (f : Fin 8 → FVec F S250x256 .bf16) (O : Vec F S250x2048 .bf16) : oChunks f 8 0 rfl O = oAll f :=
  funext fun j => oChunks_in f 8 0 rfl O j (Nat.zero_le _)

/-! ## The block of `T` -/

/-- Block `b` of the words, the scales and the norms. -/
def wB (W : Vec F S192x256 .i32) (b : Fin 3) : Vec F S64x256 .i32 := fun i => W ((rW64 b).emb i)
def sB (Sc : Vec F S96x128 .f32) (b : Fin 3) : Vec F S32x128 .f32 := fun i => Sc ((rS32 b).emb i)
def cnB (C : Vec F S96x256 .f32) (b : Fin 3) : Vec F S32x256 .f32 := fun i => C ((rCn32 b).emb i)

def tB (f : Fin 3 → Fin 4 → FVec F S1x32x256 .f32) (b : Fin 3) (T : Vec F S4x96x256 .f32) : Vec F S4x96x256 .f32 :=
  (rT 3 b).overlay ((rT 2 b).overlay ((rT 1 b).overlay ((rT 0 b).overlay T (f b 0)) (f b 1)) (f b 2)) (f b 3)

/-- A block of `T` from its parts. -/
def tAll (f : Fin 3 → Fin 4 → FVec F S1x32x256 .f32) : Vec F S4x96x256 .f32 :=
  fun j => f ⟨(j 1).val / 32, Nat.div_lt_of_lt_mul (j 1).isLt⟩ (j 0)
    (ix3 0 ⟨(j 1).val % 32, Nat.mod_lt _ (by decide)⟩ (j 2))

theorem rT_out_row (T : Vec F S4x96x256 .f32) (G : FVec F S1x32x256 .f32) (i : Fin 4) (b : Fin 3) (j : S4x96x256.Idx)
    (h : j 0 ≠ i) : (rT i b).overlay T G j = T j :=
  overlay_out (s := S4x96x256) _ _ _ 0 (by
    have : (j 0).val ≠ i.val := fun e => h (Fin.ext e)
    show (j 0).val < i.val ∨ i.val + 1 ≤ (j 0).val
    omega)

theorem rT_out_block (T : Vec F S4x96x256 .f32) (G : FVec F S1x32x256 .f32) (i : Fin 4) (b : Fin 3) (j : S4x96x256.Idx)
    (h : (j 1).val / 32 ≠ b.val) : (rT i b).overlay T G j = T j :=
  overlay_out (s := S4x96x256) _ _ _ 1 (by
    show (j 1).val < 32 * b.val ∨ 32 * b.val + 32 ≤ (j 1).val
    omega)

theorem rT_in (T : Vec F S4x96x256 .f32) (G : FVec F S1x32x256 .f32) (i : Fin 4) (b : Fin 3) (j : S4x96x256.Idx)
    (h0 : j 0 = i) (h : (j 1).val / 32 = b.val) :
    (rT i b).overlay T G j = G (ix3 0 ⟨(j 1).val % 32, Nat.mod_lt _ (by decide)⟩ (j 2)) := by
  refine overlay_in (s := S4x96x256) _ _ _ (ix3 0 ⟨(j 1).val % 32, Nat.mod_lt _ (by decide)⟩ (j 2)) ?_
  intro a
  match a with
  | ⟨0, _⟩ => show (j 0).val = i.val + 0; rw [h0]; rfl
  | ⟨1, _⟩ => show (j 1).val = 32 * b.val + (j 1).val % 32; omega
  | ⟨2, _⟩ => exact (Nat.zero_add _).symm

theorem tB_out (f : Fin 3 → Fin 4 → FVec F S1x32x256 .f32) (b : Fin 3) (T : Vec F S4x96x256 .f32) (j : S4x96x256.Idx)
    (h : (j 1).val / 32 ≠ b.val) : tB f b T j = T j := by
  unfold tB
  rw [rT_out_block _ _ _ _ _ h, rT_out_block _ _ _ _ _ h, rT_out_block _ _ _ _ _ h, rT_out_block _ _ _ _ _ h]

theorem tB_in (f : Fin 3 → Fin 4 → FVec F S1x32x256 .f32) (b : Fin 3) (T : Vec F S4x96x256 .f32) (j : S4x96x256.Idx)
    (h : (j 1).val / 32 = b.val) : tB f b T j = tAll f j := by
  have hb : (⟨(j 1).val / 32, Nat.div_lt_of_lt_mul (j 1).isLt⟩ : Fin 3) = b := Fin.ext h
  unfold tB tAll
  rw [hb]
  have hlt : (j 0).val < 4 := (j 0).isLt
  by_cases h3 : j 0 = (3 : Fin 4)
  · rw [rT_in _ _ _ _ _ h3 h, h3]
  rw [rT_out_row _ _ _ _ _ h3]
  by_cases h2 : j 0 = (2 : Fin 4)
  · rw [rT_in _ _ _ _ _ h2 h, h2]
  rw [rT_out_row _ _ _ _ _ h2]
  by_cases h1 : j 0 = (1 : Fin 4)
  · rw [rT_in _ _ _ _ _ h1 h, h1]
  rw [rT_out_row _ _ _ _ _ h1]
  have h0 : j 0 = (0 : Fin 4) := by
    have a3 : (j 0).val ≠ 3 := fun e => h3 (Fin.ext e)
    have a2 : (j 0).val ≠ 2 := fun e => h2 (Fin.ext e)
    have a1 : (j 0).val ≠ 1 := fun e => h1 (Fin.ext e)
    exact Fin.ext (show (j 0).val = 0 by omega)
  rw [rT_in _ _ _ _ _ h0 h, h0]

theorem tB_all (f : Fin 3 → Fin 4 → FVec F S1x32x256 .f32) (T : Vec F S4x96x256 .f32) :
    tB f 2 (tB f 1 (tB f 0 T)) = tAll f := by
  funext j
  have hlt : (j 1).val < 96 := (j 1).isLt
  by_cases h2 : (j 1).val / 32 = 2
  · exact tB_in f 2 _ j h2
  rw [tB_out _ _ _ _ h2]
  by_cases h1 : (j 1).val / 32 = 1
  · exact tB_in f 1 _ j h1
  rw [tB_out _ _ _ _ h1]
  exact tB_in f 0 _ j (by show _ = 0; omega)

/-! ## The scratch the first step fills -/

/-- Three blocks of 256 columns side by side. -/
def cols3 {α : Type} (f : Fin 3 → S256x256.Idx → α) : S256x768.Idx → α :=
  fun j => f ⟨(j 1).val / 256, Nat.div_lt_of_lt_mul (j 1).isLt⟩ (ix2 (j 0) ⟨(j 1).val % 256, Nat.mod_lt _ (by decide)⟩)

theorem rXp_out {α : Type} (X : S256x768.Idx → α) (G : S256x256.Idx → α) (b : Fin 3) (j : S256x768.Idx)
    (h : (j 1).val / 256 ≠ b.val) : (rXp b).overlay X G j = X j :=
  overlay_out (s := S256x768) _ _ _ 1 (by
    show (j 1).val < 256 * b.val ∨ 256 * b.val + 256 ≤ (j 1).val
    omega)

theorem rXp_in {α : Type} (X : S256x768.Idx → α) (f : Fin 3 → S256x256.Idx → α) (b : Fin 3) (j : S256x768.Idx)
    (h : (j 1).val / 256 = b.val) : (rXp b).overlay X (f b) j = cols3 f j := by
  have hb : (⟨(j 1).val / 256, Nat.div_lt_of_lt_mul (j 1).isLt⟩ : Fin 3) = b := Fin.ext h
  unfold cols3
  rw [hb]
  refine overlay_in (s := S256x768) _ _ _ (ix2 (j 0) ⟨(j 1).val % 256, Nat.mod_lt _ (by decide)⟩) ?_
  intro a
  match a with
  | ⟨0, _⟩ => exact (Nat.zero_add _).symm
  | ⟨1, _⟩ => show (j 1).val = 256 * b.val + (j 1).val % 256; omega

theorem cols3_all {α : Type} (X : S256x768.Idx → α) (f : Fin 3 → S256x256.Idx → α) :
    (rXp 2).overlay ((rXp 1).overlay ((rXp 0).overlay X (f 0)) (f 1)) (f 2) = cols3 f := by
  funext j
  have hlt : (j 1).val < 768 := (j 1).isLt
  by_cases h2 : (j 1).val / 256 = 2
  · exact rXp_in _ f 2 j h2
  rw [rXp_out _ _ _ _ h2]
  by_cases h1 : (j 1).val / 256 = 1
  · exact rXp_in _ f 1 j h1
  rw [rXp_out _ _ _ _ h1]
  exact rXp_in _ f 0 j (by show _ = 0; omega)

/-- The queries permuted, and the scaled ones. -/
def xpAll (x : Vec F S250x768 .bf16) : Vec F S256x768 .bf16 := cols3 fun b => xpSt x b
def xsAll (x : Vec F S250x768 .bf16) (s : Vec F S96x128 .f32) : Vec F S256x768 .bf16 := cols3 fun b => xsSt x s b
/-- The squared norms of the queries, -/
def xnormAll (x : Vec F S250x768 .bf16) : Vec F S96x256 .f32 := shapeCast S96x256 (xnormV x) (by decide)
/-- and of the codewords. -/
def cnAll (W : Vec F S192x256 .i32) (s : Vec F S96x128 .f32) : Vec F S96x256 .f32 := cnV (wB W 0) (wB W 1) (wB W 2) s

theorem overlay_full {s : Shape} {α : Type} {off : Fin s.rank → Nat} {inb : ∀ a, off a + s.size a ≤ s.size a} (X : s.Idx → α)
    (G : (Rect.unit (s := s) off s.size inb).shape.Idx → α) : (Rect.unit (s := s) off s.size inb).overlay X G = G :=
  funext fun j => overlay_in X G j j fun a => by have := inb a; omega

/-! ## Running the programs -/

variable {nD : Nat} {τ : Topo} {sig : RefSig} {Ix : Type} [DecidableEq Ix]
variable {Name : Type} [DecidableEq Name] {U : Type} [URA U]
variable {Lvl : Type} {Λ : Labels} {d : Dev nD} {A : Args sig} {S : State F}
variable {R : sProp (MT nD τ sig Ix (Elt F) Name U Lvl)}
variable [Preorder Lvl] {defs : Defs nD τ sig (Elt F) Λ} {𝒱 : Variants} {bd : Option 𝒱.V} {E : Set Name}
variable {Q : PUnit → sProp (MT nD τ sig Ix (Elt F) Name U Lvl)}

theorem run_word {p h : Fin 2} {v : IVec S96x128 32} {g : Fin 12} {w : Fin 2} {k : PR F nD τ sig Λ}
    (H : St d A { S with y := yWord S.w p h v g w S.y } R ⊢ wp frame (wpE defs 𝒱 (d : Thread nD τ) bd) E k Q) :
    St d A S R ⊢ wp frame (wpE defs 𝒱 (d : Thread nD τ) bd) E (word A p h v g w k) Q :=
  load_w (load_y (store_y H))

theorem run_group {p h : Fin 2} {v : IVec S96x128 32} {g : Fin 12} {acc : FVec F S8x128 .f32}
    {k : FVec F S8x128 .f32 → PR F nD τ sig Λ}
    (H : St d A { S with y := yWord S.w p h v g 1 (yWord S.w p h v g 0 S.y) } R
      ⊢ wp frame (wpE defs 𝒱 (d : Thread nD τ) bd) E (k (addf acc (look (code v g) (cnTab S.cn g)))) Q) :
    St d A S R ⊢ wp frame (wpE defs 𝒱 (d : Thread nD τ) bd) E (group A p h v g acc k) Q :=
  run_word (run_word (load_cn H))

theorem run_groups {p h : Fin 2} {v : IVec S96x128 32} {k : FVec F S8x128 .f32 → PR F nD τ sig Λ} (n g : Nat)
    (hg : g + n = 12) (acc : FVec F S8x128 .f32) (Y : Vec F S2x768x256 .fp8e4m3)
    (H : St d A { S with y := yGroups S.w p h v n g hg Y } R
      ⊢ wp frame (wpE defs 𝒱 (d : Thread nD τ) bd) E (k (accGroups S.cn v n g hg acc)) Q) :
    St d A { S with y := Y } R ⊢ wp frame (wpE defs 𝒱 (d : Thread nD τ) bd) E (groups A p h v k n g hg acc) Q := by
  induction n generalizing g acc Y with
  | zero => exact H
  | succ n ih => exact run_group (ih (g + 1) (by omega) _ _ H)

theorem run_half {c : Fin 8} {h : Fin 2} {k : FVec F S1x128 .f32 → PR F nD τ sig Λ}
    (H : St d A { S with y := yHalf S.w S.c c h S.y } R
      ⊢ wp frame (wpE defs 𝒱 (d : Thread nD τ) bd) E (k (normHalf S.cn S.c c h)) Q) :
    St d A S R ⊢ wp frame (wpE defs 𝒱 (d : Thread nD τ) bd) E (half A c h k) Q :=
  load_c (run_groups 12 0 rfl _ S.y H)

/-- A chunk: its scores laid into the block, the two-chunk buffer left at anything. -/
theorem run_chunk {c : Fin 8} {k : PR F nD τ sig Λ}
    (H : ∀ Y, St d A { S with o := (rO c).overlay S.o (scChunk S.w S.c S.cn S.xs S.xn c), y := Y } R
      ⊢ wp frame (wpE defs 𝒱 (d : Thread nD τ) bd) E k Q) :
    St d A S R ⊢ wp frame (wpE defs 𝒱 (d : Thread nD τ) bd) E (chunk A c k) Q := by
  refine run_half (run_half (load_xs (load_y (load_xn (load_o (store_o ?_))))))
  have e1 : (fun i => S.xs ((rAllXs).emb i)) = S.xs := funext fun i => congrArg S.xs (Rect.emb_unit_full _ i)
  have e2 : (fun i => S.xn ((rAllXn).emb i)) = S.xn := funext fun i => congrArg S.xn (Rect.emb_unit_full _ i)
  dsimp only
  rw [yHalves, e1, e2]
  exact H _

theorem run_chunks {k : PR F nD τ sig Λ} (n c : Nat) (hc : c + n = 8) (O : Vec F S250x2048 .bf16)
    (Y : Vec F S2x768x256 .fp8e4m3)
    (H : ∀ Y, St d A { S with o := oChunks (scChunk S.w S.c S.cn S.xs S.xn) n c hc O, y := Y } R
      ⊢ wp frame (wpE defs 𝒱 (d : Thread nD τ) bd) E k Q) :
    St d A { S with o := O, y := Y } R ⊢ wp frame (wpE defs 𝒱 (d : Thread nD τ) bd) E (chunks A k n c hc) Q := by
  induction n generalizing c O Y with
  | zero => exact H Y
  | succ n ih => exact run_chunk fun Y' => ih (c + 1) (by omega) _ _ H

theorem run_tRow {q : BitVec 32} {xnt : Vec F S96x128 .f32} {dt : FVec F S128x256 .f32} {sc : Vec F S32x128 .f32}
    {cn : Vec F S32x256 .f32} {b : Fin 3} {j : Fin 4} {k : PR F nD τ sig Λ}
    (T : Vec F S4x96x256 .f32) (H : St d A { S with t := (rT j b).overlay T (tOut q xnt dt sc cn b j) } R
      ⊢ wp frame (wpE defs 𝒱 (d : Thread nD τ) bd) E k Q) :
    St d A { S with t := T } R ⊢ wp frame (wpE defs 𝒱 (d : Thread nD τ) bd) E (tRow A q xnt dt sc cn b j k) Q :=
  load_t (store_t H)

/-- The parts of a step's block of `T`. -/
def tPart (q : BitVec 32) (xrow : Vec F S8x768 .bf16) (xnt : Vec F S96x128 .f32) (W : Vec F S192x256 .i32)
    (Sc : Vec F S96x128 .f32) (C : Vec F S96x256 .f32) (b : Fin 3) (j : Fin 4) : FVec F S1x32x256 .f32 :=
  tOut q xnt (dotTV q xrow (wB W b) b) (sB Sc b) (cnB C b) b j

theorem run_tBlock {q : BitVec 32} {xrow : Vec F S8x768 .bf16} {xnt : Vec F S96x128 .f32} {b : Fin 3} {k : PR F nD τ sig Λ}
    (H : St d A { S with t := tB (tPart q xrow xnt S.w S.s S.cn) b S.t } R
      ⊢ wp frame (wpE defs 𝒱 (d : Thread nD τ) bd) E k Q) :
    St d A S R ⊢ wp frame (wpE defs 𝒱 (d : Thread nD τ) bd) E (tBlock A q xrow xnt b k) Q := by
  unfold tB tPart at H
  exact load_w (load_s (load_cn (run_tRow (S := S) S.t (run_tRow (S := S) _ (run_tRow (S := S) _ (run_tRow (S := S) _ H))))))

/-- The step's block of `T`. -/
def tStep (n : BitVec 32) (off1 off2 : Fin 2 → Nat)
    (h1 : ∀ a, off1 a + S8x768.size a ≤ S256x768.size a) (h2 : ∀ a, off2 a + S96x128.size a ≤ S96x256.size a)
    (Xp : Vec F S256x768 .bf16) (Xnorm : Vec F S96x256 .f32) (W : Vec F S192x256 .i32)
    (Sc : Vec F S96x128 .f32) (C : Vec F S96x256 .f32) : Vec F S4x96x256 .f32 :=
  tAll (tPart (q0 n) (fun i => Xp ((Rect.unit (s := S256x768) off1 S8x768.size h1).emb i))
    (fun i => Xnorm ((Rect.unit (s := S96x256) off2 S96x128.size h2).emb i)) W Sc C)

theorem run_tStage {n : BitVec 32} {off1 off2 : Fin 2 → Nat} {h1 h2}
    (H : St d A { S with t := tStep n off1 off2 h1 h2 S.xp S.xnorm S.w S.s S.cn } R ⊢ Q ⟨⟩) :
    St d A S R ⊢ wp frame (wpE defs 𝒱 (d : Thread nD τ) bd) E (tStage A n off1 off2 h1 h2) Q := by
  refine load_xp (load_xnorm (run_tBlock (run_tBlock (run_tBlock ?_))))
  dsimp only
  rw [tB_all]
  exact H.trans (le_wp_ret _ _ _ ⟨⟩ Q)

/-- The step's work: the block of scores and the block of `T`, the two-chunk buffer left at anything. -/
theorem run_rest {n : BitVec 32} {off1 off2 : Fin 2 → Nat} {h1 h2}
    (H : ∀ Y, St d A
      { S with o := oAll (scChunk S.w S.c S.cn S.xs S.xn), t := tStep n off1 off2 h1 h2 S.xp S.xnorm S.w S.s S.cn, y := Y } R ⊢ Q ⟨⟩) :
    St d A S R ⊢ wp frame (wpE defs 𝒱 (d : Thread nD τ) bd) E (rest A n off1 off2 h1 h2) Q := by
  have H2 : ∀ Y, St d A { S with o := oChunks (scChunk S.w S.c S.cn S.xs S.xn) 8 0 rfl S.o, y := Y } R
      ⊢ wp frame (wpE defs 𝒱 (d : Thread nD τ) bd) E (tStage A n off1 off2 h1 h2) Q := by
    intro Y
    rw [oChunks_all]
    exact run_tStage (H Y)
  unfold rest
  generalize (tStage A n off1 off2 h1 h2 : PR F nD τ sig Λ) = k at H2 ⊢
  have e : ({ S with o := S.o, y := S.y } : State F) = S := rfl
  have h0 := run_chunks (S := S) (k := k) 8 0 rfl S.o S.y H2
  rw [e] at h0
  generalize chunks A k 8 0 rfl = p at h0 ⊢
  exact h0

/-- The first step's filling of the scratch. -/
theorem run_init {k : PR F nD τ sig Λ}
    (H : St d A { S with xp := xpAll S.x, xs := xsAll S.x S.s, xn := xnV S.x, xnorm := xnormAll S.x, cn := cnAll S.w S.s } R
      ⊢ wp frame (wpE defs 𝒱 (d : Thread nD τ) bd) E k Q) :
    St d A S R ⊢ wp frame (wpE defs 𝒱 (d : Thread nD τ) bd) E (init A k) Q := by
  refine load_x (load_s ?_)
  have e1 : (fun i => S.x ((rAllX).emb i)) = S.x := funext fun i => congrArg S.x (Rect.emb_unit_full _ i)
  have e2 : (fun i => S.s ((rAllS).emb i)) = S.s := funext fun i => congrArg S.s (Rect.emb_unit_full _ i)
  rw [e1, e2]
  refine load_xp (store_xp (load_xs (store_xs (load_xp (store_xp (load_xs (store_xs (load_xp (store_xp (load_xs (store_xs ?_)))))))))))
  refine load_xnorm (store_xnorm (load_xn (store_xn (load_w (load_w (load_w (load_cn (store_cn ?_))))))))
  have h1 : (rXp 2).overlay ((rXp 1).overlay ((rXp 0).overlay S.xp (xpSt S.x 0)) (xpSt S.x 1)) (xpSt S.x 2) = xpAll S.x :=
    cols3_all _ fun b => xpSt S.x b
  have h2 : (rXp 2).overlay ((rXp 1).overlay ((rXp 0).overlay S.xs (xsSt S.x S.s 0)) (xsSt S.x S.s 1)) (xsSt S.x S.s 2)
      = xsAll S.x S.s := cols3_all _ fun b => xsSt S.x S.s b
  dsimp only
  rw [h1, h2, overlay_full, overlay_full, overlay_full]
  exact H

end PQ

end
-- ==== Proof.KIValue.lean ====
module

public import proofs.«01_k».proof.Proof.KIRuns
public import proofs.«01_k».proof.Proof.KIOff
public import proofs.«01_k».proof.Proof.SameKI
public import proofs.«01_k».proof.Proof.Steps
public import Idealize.ShloMosaic.Lib.Claim
public import Idealize.ShloMosaic.Lib.Pipeline.ValueKit

/-! The run of the idealized kernel, with what it leaves in its two result arrays named: what each grid point writes
into its block of the scores and its block of the table, as a function of the arrays the region is entered with. -/

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays the region finds -/

/-- The queries, -/
def aX (c : Dev nD) : Vec F S250x768 .bf16 := V m c main_arg0
/-- the words of the codebook bytes, -/
def aW (c : Dev nD) : Vec F S192x256 .i32 := V m c main_v3
/-- the scales, each broadcast along a row, -/
def aS (c : Dev nD) : Vec F S96x128 .f32 := V m c main_v5
/-- and point `t`'s 2048 rows of the database codes. -/
def aD (c : Dev nD) (t : Fin cfg0.N) : Vec F S2048x96 .i8 := iblk m c 3 t

/-- A block at index zero that is as large as the array is the array. -/
theorem iblk_x (c : Dev nD) (t : Fin cfg0.N) : iblk m c 0 t = aX m c := by
  funext j
  show V m c main_arg0 (((cfg0.win 0).blk t).view.emb j) = V m c main_arg0 j
  congr 1
  funext a
  apply Fin.ext
  have hi : win0_0.index t a = 0 := by fin_cases a <;> rfl
  blk_simp [hi]
theorem iblk_w (c : Dev nD) (t : Fin cfg0.N) : iblk m c 1 t = aW m c := by
  funext j
  show V m c main_v3 (((cfg0.win 1).blk t).view.emb j) = V m c main_v3 j
  congr 1
  funext a
  apply Fin.ext
  have hi : win0_1.index t a = 0 := by fin_cases a <;> rfl
  blk_simp [hi]
theorem iblk_s (c : Dev nD) (t : Fin cfg0.N) : iblk m c 2 t = aS m c := by
  funext j
  show V m c main_v5 (((cfg0.win 2).blk t).view.emb j) = V m c main_v5 j
  congr 1
  funext a
  apply Fin.ext
  have hi : win0_2.index t a = 0 := by fin_cases a <;> rfl
  blk_simp [hi]

/-! ## The pipeline's proof data -/

/-- The table's first rows, as the first point leaves the scratch: the transposed norms. -/
def aNorm (c : Dev nD) : Vec F S96x256 .f32 := PQ.xnormAll (aX m c)

/-- What point `t` writes into its block of the scores. -/
def outO (c : Dev nD) (t : Fin cfg0.N) : Vec F S250x2048 .bf16 :=
  PQ.oAll (PQ.scChunk (aW m c) (aD m c t) (PQ.cnAll (aW m c) (aS m c)) (PQ.xsAll (aX m c) (aS m c)) (PQ.xnV (aX m c)))

/-- What point `t` writes into its block of the table. -/
def outT (c : Dev nD) (t : Fin cfg0.N) : Vec F S4x96x256 .f32 :=
  PQ.tStep (BitVec.ofNat 32 (grid0.coords t 0).val) (k0_off1 (grid0.coords t)) (k0_off2 (grid0.coords t))
    (Facts₀.k0_off1_inb (grid0.coords t)) (Facts₀.k0_off2_inb (grid0.coords t))
    (PQ.xpAll (aX m c)) (aNorm m c) (aW m c) (aS m c) (PQ.cnAll (aW m c) (aS m c))

/-- The scratch after the first point: the permuted queries, the same scaled, the norms, the transposed norms, the
    codeword norms; the decoded chunk at anything. -/
def scr (c : Dev nD) : sProp 𝕄 :=
  iprop(iprop(owns (c : Thread nD τ) scM0_0 fullShare (PQ.xpAll (aX m c))
      ∗ owns (c : Thread nD τ) scM0_1 fullShare (PQ.xsAll (aX m c) (aS m c))
      ∗ owns (c : Thread nD τ) scM0_2 fullShare (PQ.xnV (aX m c))
      ∗ owns (c : Thread nD τ) scM0_3 fullShare (aNorm m c)
      ∗ owns (c : Thread nD τ) scM0_4 fullShare (PQ.cnAll (aW m c) (aS m c))
      ∗ (∃ d, owns (c : Thread nD τ) scM0_5 fullShare d)) ∗ (∃ r, prngReg c r))

/-- The proof data of the pipeline on core `c`: each input's buffer at its block, the outputs at what the point writes;
    before the first point the scratch holds anything, after it what `scr` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => outO m c t
    | ⟨5, h⟩ => outT m c t
  Φ t := if t.val = 0 then Pipeline.ΦA spec0 c else scr m c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outO m c t := by dsimp only [dats]
theorem after0_5 (c : Dev nD) (t : Fin cfg0.N) : (dats m 0 c).after 5 t = outT m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The scratch before the first point, -/
theorem Phi_first (c : Dev nD) (t : Fin cfg0.N) (h : t.val = 0) : (dats m 0 c).Φ t.castSucc = Pipeline.ΦA spec0 c := by
  dsimp only [dats]
  exact if_pos h
/-- before a later one, -/
theorem Phi_next (c : Dev nD) (t : Fin cfg0.N) (h : t.val ≠ 0) : (dats m 0 c).Φ t.castSucc = scr m c := by
  dsimp only [dats]
  exact if_neg h
/-- and after any. -/
theorem Phi_succ (c : Dev nD) (t : Fin cfg0.N) : (dats m 0 c).Φ t.succ = scr m c := by
  dsimp only [dats]
  exact if_neg (Nat.succ_ne_zero _)

/-! ## The body, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The memrefs the body is called with at point `t`. -/
def argsAt (t : Fin cfg0.N) : PQ.Args sig :=
  ⟨ms0_0 t, hs0_0 t, ms0_1 t, hs0_1 t, ms0_2 t, hs0_2 t, ms0_3 t, hs0_3 t, ms0_4 t, hs0_4 t, ms0_5 t, hs0_5 t,
    scM0_0, Memref.isWhole_whole _, scM0_1, Memref.isWhole_whole _, scM0_2, Memref.isWhole_whole _,
    scM0_3, Memref.isWhole_whole _, scM0_4, Memref.isWhole_whole _, scM0_5, Memref.isWhole_whole _⟩

/-- What rides along: nothing is owed, and the generator register. -/
def along (c : Dev nD) (t : Fin cfg0.N) : sProp 𝕄 :=
  iprop((dats m 0 c).owesAt () t.succ ∗ (∃ r, prngReg c r))

/-- What a point leaves gives the body's postcondition. -/
theorem post_of (c : Dev nD) (t : Fin cfg0.N) (Y : Vec F S2x768x256 .fp8e4m3) :
    PQ.St c (argsAt t) ⟨aX m c, aW m c, aS m c, aD m c t, outO m c t, outT m c t, PQ.xpAll (aX m c), PQ.xsAll (aX m c) (aS m c),
        PQ.xnV (aX m c), aNorm m c, PQ.cnAll (aW m c) (aS m c), Y⟩ (along m c t) ⊢ bodyPost m c t := by
  unfold bodyPost
  rw [Phi_succ, after0_0, after0_1, after0_2, after0_3, after0_4, after0_5, iblk_x, iblk_w, iblk_s]
  unfold PQ.St along scr
  iintro ⟨H0, H1, H2, H3, H4, H5, S0, S1, S2, S3, S4, S5, Ho, Hg⟩
  isplitl [S0 S1 S2 S3 S4 S5 Hg]
  · isplitl [S0 S1 S2 S3 S4 S5]
    · isplitl [S0]
      · iexact S0
      isplitl [S1]
      · iexact S1
      isplitl [S2]
      · iexact S2
      isplitl [S3]
      · iexact S3
      isplitl [S4]
      · iexact S4
      iexists _; iexact S5
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at the first point, whatever the scratch and the outputs' buffers hold. -/
theorem first (c : Dev nD) (t : Fin cfg0.N) (h : t.val % 64 = 0) (o : Vec F S250x2048 .bf16) (T : Vec F S4x96x256 .f32)
    (xp xs : Vec F S256x768 .bf16) (xn : Vec F S256x128 .f32) (xnorm cn : Vec F S96x256 .f32) (y : Vec F S2x768x256 .fp8e4m3) :
    PQ.St c (argsAt t) ⟨aX m c, aW m c, aS m c, aD m c t, o, T, xp, xs, xn, xnorm, cn, y⟩ (along m c t)
      ⊢ wp frame (wpE (defs₀ (F := F)) Variants.none c none) Set.univ (bodyAt0 t) (fun _ => bodyPost m c t) := by
  rw [show bodyAt0 (F := F) t = _ from body_first (grid0.coords t) (argsAt t) ((hcond0_0 t).mpr h)]
  apply PQ.run_init
  apply PQ.run_rest
  intro Y
  exact post_of m c t Y

/-- The body at a later point, the scratch as the first point left it. -/
theorem next (c : Dev nD) (t : Fin cfg0.N) (h : ¬ t.val % 64 = 0) (o : Vec F S250x2048 .bf16) (T : Vec F S4x96x256 .f32)
    (y : Vec F S2x768x256 .fp8e4m3) :
    PQ.St c (argsAt t) ⟨aX m c, aW m c, aS m c, aD m c t, o, T, PQ.xpAll (aX m c), PQ.xsAll (aX m c) (aS m c),
        PQ.xnV (aX m c), aNorm m c, PQ.cnAll (aW m c) (aS m c), y⟩ (along m c t)
      ⊢ wp frame (wpE (defs₀ (F := F)) Variants.none c none) Set.univ (bodyAt0 t) (fun _ => bodyPost m c t) := by
  rw [show bodyAt0 (F := F) t = _ from body_next (grid0.coords t) (argsAt t) (fun hc => h ((hcond0_0 t).mp hc))]
  apply PQ.run_rest
  intro Y
  exact post_of m c t Y

theorem sound_body (c : Dev nD) (t : Fin cfg0.N) :
    bodyPre m c t ⊢ wp frame (wpE (defs₀ (F := F)) Variants.none c none) Set.univ (bodyAt0 t) (fun _ => bodyPost m c t) := by
  unfold bodyPre
  simp only [before0_0, before0_1, before0_2, before0_3, iblk_x, iblk_w, iblk_s]
  rw [show (dats m 0 c).owesAt () t.castSucc = (dats m 0 c).owesAt () t.succ from rfl]
  have hN : t.val < 64 := lt_of_lt_of_eq t.isLt (show cfg0.N = 64 from N_0)
  by_cases h0 : t.val = 0
  · rw [Phi_first m c t h0, PhiA0_eq]
    iintro ⟨⟨⟨⟨%e0, S0⟩, ⟨%e1, S1⟩, ⟨%e2, S2⟩, ⟨%e3, S3⟩, ⟨%e4, S4⟩, ⟨%e5, S5⟩⟩, Hg⟩, Ho, ⟨%d0, H0⟩, ⟨%d1, H1⟩, ⟨%d2, H2⟩, ⟨%d3, H3⟩, ⟨%d4, H4⟩, ⟨%d5, H5⟩⟩
    iapply (first m c t (by omega) _ _ e0 e1 e2 e3 e4 e5)
    unfold PQ.St along
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    isplitl [S4]; · iexact S4
    isplitl [S5]; · iexact S5
    isplitl [Ho]; · iexact Ho
    iexact Hg
  · rw [Phi_next m c t h0]
    unfold scr
    iintro ⟨⟨⟨S0, S1, S2, S3, S4, ⟨%e5, S5⟩⟩, Hg⟩, Ho, ⟨%d0, H0⟩, ⟨%d1, H1⟩, ⟨%d2, H2⟩, ⟨%d3, H3⟩, ⟨%d4, H4⟩, ⟨%d5, H5⟩⟩
    iapply (next m c t (by omega) _ _ e5)
    unfold PQ.St along
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    isplitl [S4]; · iexact S4
    isplitl [S5]; · iexact S5
    isplitl [Ho]; · iexact Ho
    iexact Hg

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The scratch forgotten after the last point. -/
theorem out_Phi (c : Dev nD) : (dats m 0 c).Φ (Fin.last cfg0.N) ⊢ Pipeline.ΦA spec0 c := by
  rw [show (dats m 0 c).Φ (Fin.last cfg0.N) = scr m c from by
    dsimp only [dats]; exact if_neg (by decide), PhiA0_eq]
  unfold scr
  iintro ⟨⟨S0, S1, S2, S3, S4, S5⟩, Hg⟩
  isplitl [S0 S1 S2 S3 S4 S5]
  · isplitl [S0]
    · iexists _; iexact S0
    isplitl [S1]
    · iexists _; iexact S1
    isplitl [S2]
    · iexists _; iexact S2
    isplitl [S3]
    · iexists _; iexact S3
    isplitl [S4]
    · iexists _; iexact S4
    iexact S5
  iexact Hg

set_option backward.isDefEq.respectTransparency.types false in
/-- Every execution terminates, the arrays as the proof data says. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := out_Phi m)

end Cert.KernelIdeal.Val
end
-- ==== Proof.Math.lean ====
module

public import Mathlib.Algebra.BigOperators.Fin
public import Mathlib.Data.EReal.Operations
public import Mathlib.Tactic.FinCases
public import Mathlib.Tactic.Ring

/-! The order the kernel puts the channels in: row `r` of the permuted order holds channel `8 * sub r + byt r`, and a sum
over the rows is a sum over the subspaces and their eight dimensions. -/

@[expose] public section

namespace PQ

open scoped BigOperators

/-- The subspace of row `r`. -/
def sub (r : Nat) : Nat := r / 64 * 8 + r / 4 % 8
/-- The dimension, within its subspace, of row `r`. -/
def byt (r : Nat) : Nat := r / 32 % 2 * 4 + r % 4
/-- The channel of row `r`. -/
def chan (r : Nat) : Nat := sub r * 8 + byt r
/-- The row of dimension `d` of subspace `m`. -/
def row (m d : Nat) : Nat := 64 * (m / 8) + 32 * (d / 4) + 4 * (m % 8) + d % 4

theorem sub_row (m d : Nat) (h : d < 8) : sub (row m d) = m := by unfold sub row; omega
theorem byt_row (m d : Nat) (h : d < 8) : byt (row m d) = d := by unfold byt row; omega
theorem chan_row (m d : Nat) (h : d < 8) : chan (row m d) = 8 * m + d := by
  unfold chan; rw [sub_row m d h, byt_row m d h]; omega
theorem row_sub (r : Nat) : row (sub r) (byt r) = r := by unfold row sub byt; omega
theorem byt_lt (r : Nat) : byt r < 8 := by unfold byt; omega
theorem sub_lt {n r : Nat} (h : r < 64 * n) : sub r < 8 * n := by unfold sub; omega
theorem row_lt {n m d : Nat} (h : m < 8 * n) (hd : d < 8) : row m d < 64 * n := by unfold row; omega
theorem chan_lt {n r : Nat} (h : r < 64 * n) : chan r < 64 * n := by unfold chan; have := sub_lt h; have := byt_lt r; omega
theorem sub_add (b r : Nat) : sub (256 * b + r) = 32 * b + sub r := by unfold sub; omega
theorem chan_add (b r : Nat) : chan (256 * b + r) = 256 * b + chan r := by unfold chan sub byt; omega
theorem row_add (b m d : Nat) : row (32 * b + m) d = 256 * b + row m d := by unfold row; omega

/-- The rows as subspaces and dimensions. -/
def rowEquiv (n : Nat) : Fin (8 * n) × Fin 8 ≃ Fin (64 * n) where
  toFun p := ⟨row p.1 p.2, row_lt p.1.isLt p.2.isLt⟩
  invFun r := (⟨sub r, sub_lt r.isLt⟩, ⟨byt r, byt_lt r⟩)
  left_inv p := Prod.ext (Fin.ext (sub_row _ _ p.2.isLt)) (Fin.ext (byt_row _ _ p.2.isLt))
  right_inv r := Fin.ext (row_sub r)

variable {M : Type} [AddCommMonoid M]

theorem sum_rows_aux (n : Nat) (f : Fin (64 * n) → M) :
    ∑ r, f r = ∑ m : Fin (8 * n), ∑ d : Fin 8, f ⟨row m d, row_lt m.isLt d.isLt⟩ := by
  rw [← Fintype.sum_prod_type', ← (rowEquiv n).sum_comp]
  rfl

/-- The sum over the 768 rows, subspace by subspace. -/
theorem sum_rows (f : Fin 768 → M) :
    ∑ r, f r = ∑ m : Fin 96, ∑ d : Fin 8, f ⟨row m d, row_lt (n := 12) m.isLt d.isLt⟩ := sum_rows_aux 12 f

/-- The sum over a block's 256 rows. -/
theorem sum_rows_block (f : Fin 256 → M) :
    ∑ r, f r = ∑ m : Fin 32, ∑ d : Fin 8, f ⟨row m d, row_lt (n := 4) m.isLt d.isLt⟩ := sum_rows_aux 4 f

/-- The sum over the rows of one subspace of a block. -/
theorem sum_sub_block (i : Fin 32) (f : Fin 256 → M) :
    (∑ r : Fin 256, if i.val = sub r.val then f r else 0)
      = ∑ d : Fin 8, f ⟨row i d, row_lt (n := 4) i.isLt d.isLt⟩ := by
  rw [sum_rows_block, Finset.sum_eq_single i]
  · exact Finset.sum_congr rfl fun d _ => if_pos (sub_row _ _ d.isLt).symm
  · intro m _ hm
    refine Finset.sum_eq_zero fun d _ => if_neg ?_
    rw [show sub (row m d) = m from sub_row _ _ d.isLt]
    exact fun h => hm (Fin.ext h.symm)
  · exact fun h => absurd (Finset.mem_univ _) h

/-- Three blocks of 256 are the 768 rows. -/
theorem sum_blocks (f : Fin 768 → M) :
    ∑ r, f r = ∑ b : Fin 3, ∑ r : Fin 256, f ⟨256 * b.val + r.val, by omega⟩ := by
  rw [← Fintype.sum_prod_type', ← (finProdFinEquiv (m := 3) (n := 256)).sum_comp]
  refine Finset.sum_congr rfl fun p _ => ?_
  congr 1
  apply Fin.ext
  show p.2.val + 256 * p.1.val = 256 * p.1.val + p.2.val
  omega

/-- The sum over the rows of one subspace. -/
theorem sum_sub (i : Fin 96) (f : Fin 768 → M) :
    (∑ r : Fin 768, if i.val = sub r.val then f r else 0)
      = ∑ d : Fin 8, f ⟨row i d, row_lt (n := 12) i.isLt d.isLt⟩ := by
  rw [sum_rows, Finset.sum_eq_single i]
  · exact Finset.sum_congr rfl fun d _ => if_pos (sub_row _ _ d.isLt).symm
  · intro m _ hm
    refine Finset.sum_eq_zero fun d _ => if_neg ?_
    rw [show sub (row m d) = m from sub_row _ _ d.isLt]
    exact fun h => hm (Fin.ext h.symm)
  · exact fun h => absurd (Finset.mem_univ _) h

end PQ
-- ==== Proof.IdxKI.lean ====
module

public import proofs.«01_k».proof.Proof.Steps
public import proofs.«01_k».proof.Proof.Math
public import Idealize.ShloMosaic.Lib.Pointwise
public import Idealize.ShloMosaic.Lib.ValueIdx
public import Idealize.ShloMosaic.Lib.IdealHost
public import Idealize.ShloMosaic.Lib.BitcastPair
public import Idealize.ShloMosaic.PureOps.Ideal.Laws

/-! The kernel's index arithmetic at an index: which subspace and channel a row of the permuted order holds, the 0/1
matrices made of them, and which byte of which word a bitcast row is. -/

@[expose] public section

noncomputable section

namespace PQ

open Idealize.ShloMosaic

theorem ix2_old {n0 n1 : Nat} (a : Fin n0) (b : Fin n1) : ValueIdx.ix2 a b = ix2 a b := rfl
theorem ix3_old {n0 n1 n2 : Nat} (a : Fin n0) (b : Fin n1) (c : Fin n2) : ValueIdx.ix3 a b c = ix3 a b c := rfl

/-! ## Rows and channels -/

abbrev S0 : Shape := ⟨0, ![]⟩

theorem chan_word (r : Fin 256) :
    chanOf (s := S0) (fun _ => BitVec.ofNat 32 r.val) (fun _ => BitVec.ofNat 32 r.val) (by decide) (fun a => a.elim0)
      = BitVec.ofNat 32 (chan r.val) := by
  revert r; decide +kernel

theorem sub_word (r : Fin 256) :
    subOf (s := S0) (fun _ => BitVec.ofNat 32 r.val) (by decide) (fun a => a.elim0) = BitVec.ofNat 32 (sub r.val) := by
  revert r; decide +kernel

theorem subOf_scalar {s : Shape} (v : IVec s 32) (h : s.Broadcasts s) (j : s.Idx) :
    subOf v h j = subOf (s := S0) (fun _ => v j) (by decide) (fun a => a.elim0) := rfl

theorem chanOf_scalar {s : Shape} (v v' : IVec s 32) (h : s.Broadcasts s) (j : s.Idx) :
    chanOf v v' h j = chanOf (s := S0) (fun _ => v j) (fun _ => v' j) (by decide) (fun a => a.elim0) := rfl

/-- A row's channel, read off the lane numbers of a [256, 256] array, -/
theorem chan_apply (h h' hb) (j : S256x256.Idx) :
    chanOf (iota .tc S256x256 32 [1] h) (iota .tc S256x256 32 [1] h') hb j = BitVec.ofNat 32 (chan (j 1).val) := by
  have e : iota .tc S256x256 32 [1] h j = BitVec.ofNat 32 (j 1).val := by pointwise
  rw [chanOf_scalar, e]
  exact chan_word ⟨(j 1).val, (j 1).isLt⟩

/-- and its subspace, off the lane numbers of a [96, 256] one, -/
theorem sub_apply96 (h hb) (j : S96x256.Idx) :
    subOf (iota .tc S96x256 32 [1] h) hb j = BitVec.ofNat 32 (sub (j 1).val) := by
  have e : iota .tc S96x256 32 [1] h j = BitVec.ofNat 32 (j 1).val := by pointwise
  rw [subOf_scalar, e]
  exact sub_word ⟨(j 1).val, (j 1).isLt⟩

/-- or of a [32, 256] one. -/
theorem sub_apply32 (h hb) (j : S32x256.Idx) :
    subOf (iota .tc S32x256 32 [1] h) hb j = BitVec.ofNat 32 (sub (j 1).val) := by
  have e : iota .tc S32x256 32 [1] h j = BitVec.ofNat 32 (j 1).val := by pointwise
  rw [subOf_scalar, e]
  exact sub_word ⟨(j 1).val, (j 1).isLt⟩

/-! ## Comparisons as numbers -/

theorem cmpi_eq {w : Nat} (a b : BitVec w) : IntOp.cmpi .eq a b = if a = b then 1#1 else 0#1 := by
  by_cases h : a = b
  · subst h; simp [IntOp.cmpi]
  · rw [if_neg h]
    show BitVec.ofBool (a == b) = 0#1
    rw [beq_false_of_ne h]; rfl

theorem ofNat_inj {p q : Nat} (hp : p < 2 ^ 32) (hq : q < 2 ^ 32) : BitVec.ofNat 32 p = BitVec.ofNat 32 q ↔ p = q := by
  constructor
  · intro h
    have := congrArg BitVec.toNat h
    rw [BitVec.toNat_ofNat, BitVec.toNat_ofNat, Nat.mod_eq_of_lt hp, Nat.mod_eq_of_lt hq] at this
    exact this
  · rintro rfl; rfl

/-- Whether two numbers are one, as the float the kernel makes of it. -/
theorem ind_eq {p q : Nat} (hp : p < 2 ^ 32) (hq : q < 2 ^ 32) :
    (FloatOps.sitofp .f32 (BitVec.setWidth 32 (IntOp.cmpi .eq (BitVec.ofNat 32 p) (BitVec.ofNat 32 q))) : Ideal .f32)
      = if p = q then (1 : EReal) else 0 := by
  rw [cmpi_eq]
  by_cases h : p = q
  · subst h
    rw [if_pos rfl, if_pos rfl]
    show ((((BitVec.setWidth 32 1#1).toInt : ℝ)) : EReal) = 1
    norm_num
  · rw [if_neg (fun e => h ((ofNat_inj hp hq).1 e)), if_neg h]
    show ((((BitVec.setWidth 32 0#1).toInt : ℝ)) : EReal) = 0
    norm_num

theorem sel_eq {α : Type} {p q : Nat} (hp : p < 2 ^ 32) (hq : q < 2 ^ 32) (a b : α) :
    Scalar.select (IntOp.cmpi .eq (BitVec.ofNat 32 p) (BitVec.ofNat 32 q)) a b = if p = q then a else b := by
  rw [cmpi_eq]
  by_cases h : p = q
  · subst h; rw [if_pos rfl, if_pos rfl]; rfl
  · rw [if_neg (fun e => h ((ofNat_inj hp hq).1 e)), if_neg h]; rfl

/-- The permutation's entry: a column's one row is its channel. -/
theorem perm_apply (c r : Fin 256) : perm (F := Ideal) (ix2 c r) = if c.val = chan r.val then (1 : EReal) else 0 := by
  unfold perm
  pointwise
  rw [chan_apply]
  have := chan_lt (n := 4) r.isLt
  exact ind_eq (show c.val < 2 ^ 32 by omega) (show chan r.val < 2 ^ 32 by omega)

/-- Which subspace a row of block `b` belongs to. -/
theorem selB_apply (b : Fin 3) (m : Fin 96) (r : Fin 256) :
    selB (F := Ideal) b (ix2 m r) = if m.val = 32 * b.val + sub r.val then (1 : EReal) else 0 := by
  unfold selB
  pointwise
  rw [sub_apply96]
  have := sub_lt (n := 4) r.isLt
  have hb : b.val < 3 := b.isLt
  have e : IntOp.addi (BitVec.ofNat 32 (sub r.val)) (BitVec.ofNat 32 (32 * b.val)) = BitVec.ofNat 32 (32 * b.val + sub r.val) := by
    show BitVec.ofNat 32 (sub r.val) + BitVec.ofNat 32 (32 * b.val) = _
    rw [← BitVec.ofNat_add, Nat.add_comm]
  refine Eq.trans (congrArg (fun z => (FloatOps.sitofp .f32 (BitVec.setWidth 32 (IntOp.cmpi .eq (BitVec.ofNat 32 m.val) z)) : Ideal .f32)) e) ?_
  exact ind_eq (show m.val < 2 ^ 32 by omega) (show 32 * b.val + sub r.val < 2 ^ 32 by omega)

/-! ## Words and bytes -/

/-- Byte `p` of a word. -/
def byteOf (x : BitVec 32) (p : Nat) : BitVec 8 := x.extractLsb' (8 * p) 8

theorem bitcast_byte {s t : Shape} (x : s.Idx → BitVec 32) (h : s.Bitcasts 32 t 8) (j : t.Idx) :
    bitcast t 8 x h j = byteOf (x (h.srcIdx j (t.row j / 4) (fun a ha => by
      have := h.pos_lt j 0 (by decide) a ha; omega))) (t.row j % 4) := by
  apply BitVec.eq_of_getLsbD_eq
  intro i hi
  have ep : (t.row j * 8 + i) / 32 = t.row j / 4 := by omega
  have eq : (t.row j * 8 + i) % 32 = 8 * (t.row j % 4) + i := by omega
  rw [bitcast_getLsbD x h j i hi (by decide), h.srcIdx_congr j ep _ (fun a ha => by
      have := h.pos_lt j 0 (by decide) a ha; omega), eq]
  unfold byteOf
  rw [BitVec.getLsbD_extractLsb']
  simp [hi]

/-- A block of 64 word rows as 256 rows of bytes, -/
theorem bytes256 (x : S64x256.Idx → BitVec 32) (h : S64x256.Bitcasts 32 S256x256 8) (r k : Fin 256) :
    bitcast S256x256 8 x h (ix2 r k) = byteOf (x (ix2 ⟨r.val / 4, by omega⟩ k)) (r.val % 4) := by
  rw [bitcast_byte]
  refine congrArg₂ byteOf (congrArg x ?_) rfl
  funext a
  match a with
  | ⟨0, _⟩ => rfl
  | ⟨1, _⟩ => rfl

/-- and eight word rows as 32. -/
theorem bytes32 (x : S8x128.Idx → BitVec 32) (h : S8x128.Bitcasts 32 S32x128 8) (r : Fin 32) (k : Fin 128) :
    bitcast S32x128 8 x h (ix2 r k) = byteOf (x (ix2 ⟨r.val / 4, by omega⟩ k)) (r.val % 4) := by
  rw [bitcast_byte]
  refine congrArg₂ byteOf (congrArg x ?_) rfl
  funext a
  match a with
  | ⟨0, _⟩ => rfl
  | ⟨1, _⟩ => rfl

/-! ## Constants -/

theorem bits_two : Ideal.ofBits .f32 0x40000000#32 = ((2 : ℝ) : EReal) := by
  simp [Ideal.ofBits, Ideal.ieee, -EReal.coe_mul]; norm_num
theorem bits_neg_two : Ideal.ofBits .f32 0xC0000000#32 = ((-2 : ℝ) : EReal) := by
  simp [Ideal.ofBits, Ideal.ieee, -EReal.coe_mul, -EReal.coe_neg]; norm_num
theorem bits_neg_inf : Ideal.ofBits .f32 0xFF800000#32 = ⊥ := by
  simp [Ideal.ofBits, Ideal.ieee]

end PQ

end
-- ==== Proof.InitKI.lean ====
module

public import proofs.«01_k».proof.Proof.IdxKI

/-! What the first step fills the scratch with, at an index and over the extended reals: the queries with the channels
permuted, the same scaled by `-2 * cb_scale`, the squared norms of the queries per subspace and over all of them, and the
squared norms of the codewords. -/

@[expose] public section

noncomputable section

namespace PQ

open Idealize.ShloMosaic
open scoped BigOperators

/-! ## The data as reals -/

/-- Element `(8 m + d)` of a row. -/
def ch (m : Fin 96) (d : Fin 8) : Fin 768 := ⟨8 * m.val + d.val, by omega⟩
/-- The row of the permuted order that holds it. -/
def rowF (m : Fin 96) (d : Fin 8) : Fin 768 := ⟨row m d, row_lt (n := 12) m.isLt d.isLt⟩
/-- Row `r` of block `b`. -/
def blkRow (b : Fin 3) (r : Fin 256) : Fin 768 := ⟨256 * b.val + r.val, by omega⟩
/-- Subspace `i` of block `b`. -/
def blkSub (b : Fin 3) (i : Fin 32) : Fin 96 := ⟨32 * b.val + i.val, by omega⟩
/-- The row of a block that holds element `d` of the block's subspace `i`. -/
def rowB (i : Fin 32) (d : Fin 8) : Fin 256 := ⟨row i d, row_lt (n := 4) i.isLt d.isLt⟩
/-- A query among the 256 rows. -/
def qF (q : Fin 250) : Fin 256 := ⟨q.val, by omega⟩

theorem blkRow_rowB (b : Fin 3) (i : Fin 32) (d : Fin 8) : blkRow b (rowB i d) = rowF (blkSub b i) d :=
  Fin.ext (row_add b.val i.val d.val).symm

/-- The codeword byte at row `R`, column `k` of the words, as a number. -/
def cw (W : Vec Ideal S192x256 .i32) (R : Fin 768) (k : Fin 256) : EReal :=
  Ideal.ofBits .fp8e4m3 (byteOf (W (ix2 ⟨R.val / 4, by omega⟩ k)) (R.val % 4))

/-- The words, the scales and the queries hold these reals. -/
def IsX (x : Vec Ideal S250x768 .bf16) (xr : Fin 250 → Fin 96 → Fin 8 → ℝ) : Prop :=
  ∀ q m d, x (ix2 q (ch m d)) = ((xr q m d : ℝ) : EReal)
def IsS (s : Vec Ideal S96x128 .f32) (sr : Fin 96 → ℝ) : Prop := ∀ m l, s (ix2 m l) = ((sr m : ℝ) : EReal)
def IsW (W : Vec Ideal S192x256 .i32) (cr : Fin 96 → Fin 8 → Fin 256 → ℝ) : Prop :=
  ∀ m d k, cw W (rowF m d) k = ((cr m d k : ℝ) : EReal)

/-! ## Sums over a block's rows -/

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The block of a subspace, and its place in it. -/
def subBlk (m : Fin 96) : Fin 3 := ⟨m.val / 32, by omega⟩
def subIn (m : Fin 96) : Fin 32 := ⟨m.val % 32, Nat.mod_lt _ (by decide)⟩

theorem blkSub_sub (m : Fin 96) : blkSub (subBlk m) (subIn m) = m := Fin.ext (by
  show 32 * (m.val / 32) + m.val % 32 = m.val; omega)

/-- Picking one subspace's rows out of a block. -/
theorem sum_sel (b : Fin 3) (m : Fin 96) (f : Fin 256 → EReal) :
    (∑ r : Fin 256, selB (F := Ideal) b (ix2 m r) * f r) = if subBlk m = b then ∑ d : Fin 8, f (rowB (subIn m) d) else 0 := by
  have e : ∀ r : Fin 256, selB (F := Ideal) b (ix2 m r) * f r = if m.val = 32 * b.val + sub r.val then f r else 0 := by
    intro r
    rw [selB_apply]
    by_cases h : m.val = 32 * b.val + sub r.val
    · rw [if_pos h, if_pos h, one_mul]
    · rw [if_neg h, if_neg h, zero_mul]
  rw [Finset.sum_congr rfl fun r _ => e r]
  by_cases hb : subBlk m = b
  · rw [if_pos hb]
    refine Eq.trans ?_ (sum_sub_block (subIn m) f)
    refine Finset.sum_congr rfl fun r _ => ?_
    have hb' : m.val / 32 = b.val := congrArg Fin.val hb
    have := sub_lt (n := 4) r.isLt
    have : (m.val = 32 * b.val + sub r.val) ↔ ((subIn m).val = sub r.val) := by
      show _ ↔ m.val % 32 = _
      omega
    by_cases h : m.val = 32 * b.val + sub r.val
    · rw [if_pos h, if_pos (this.1 h)]
    · rw [if_neg h, if_neg (fun h' => h (this.2 h'))]
  · rw [if_neg hb]
    refine Finset.sum_eq_zero fun r _ => if_neg ?_
    intro h
    have := sub_lt (n := 4) r.isLt
    exact hb (Fin.ext (show m.val / 32 = b.val by omega))

/-- One of three blocks. -/
theorem sum_blk (b : Fin 3) (f : Fin 3 → EReal) :
    ((0 + (if b = 0 then f 0 else 0)) + (if b = 1 then f 1 else 0)) + (if b = 2 then f 2 else 0) = f b := by
  match b with
  | 0 => simp
  | 1 => simp
  | 2 => simp

/-! ## The queries -/

/-- Block `b` of the permuted queries. -/
theorem xpB_apply (x : Vec Ideal S250x768 .bf16) (b : Fin 3) (q : Fin 250) (r : Fin 256) :
    xpB x b (ix2 (qF q) r) = x (ix2 q ⟨256 * b.val + chan r.val, by have := chan_lt (n := 4) r.isLt; omega⟩) := by
  unfold xpB xpad
  pointwise
  have hq : (qF q).val < 250 := q.isLt
  have hc := chan_lt (n := 4) r.isLt
  rw [Finset.sum_eq_single (⟨chan r.val, hc⟩ : Fin 256)]
  · rw [perm_apply, if_pos rfl, mul_one, dif_pos hq]
    rfl
  · intro c _ hne
    rw [perm_apply, if_neg (fun h => hne (Fin.ext h)), mul_zero]
  · exact fun h => absurd (Finset.mem_univ _) h

variable {x : Vec Ideal S250x768 .bf16} {xr : Fin 250 → Fin 96 → Fin 8 → ℝ}
variable {s : Vec Ideal S96x128 .f32} {sr : Fin 96 → ℝ}
variable {W : Vec Ideal S192x256 .i32} {cr : Fin 96 → Fin 8 → Fin 256 → ℝ}

theorem xpB_real (hx : IsX x xr) (b : Fin 3) (q : Fin 250) (i : Fin 32) (d : Fin 8) :
    xpB x b (ix2 (qF q) (rowB i d)) = ((xr q (blkSub b i) d : ℝ) : EReal) := by
  rw [xpB_apply, ← hx]
  refine congrArg x (congrArg (ix2 q) (Fin.ext ?_))
  show 256 * b.val + chan (row i.val d.val) = 8 * (32 * b.val + i.val) + d.val
  rw [chan_row _ _ d.isLt]
  omega

theorem rowB_surj (r : Fin 256) : ∃ i d, r = rowB i d :=
  ⟨⟨sub r.val, sub_lt (n := 4) r.isLt⟩, ⟨byt r.val, byt_lt _⟩, Fin.ext (row_sub r.val).symm⟩
theorem rowF_surj (R : Fin 768) : ∃ m d, R = rowF m d :=
  ⟨⟨sub R.val, sub_lt (n := 12) R.isLt⟩, ⟨byt R.val, byt_lt _⟩, Fin.ext (row_sub R.val).symm⟩

theorem xpSt_eq (b : Fin 3) (j : S256x256.Idx) : xpSt x b j = xpB x b j := by
  unfold xpSt
  pointwise

theorem cols3_rowF {α : Type} (f : Fin 3 → S256x256.Idx → α) (q : Fin 256) (m : Fin 96) (d : Fin 8) :
    cols3 f (ix2 q (rowF m d)) = f (subBlk m) (ix2 q (rowB (subIn m) d)) := by
  have h1 : (row m.val d.val) / 256 = m.val / 32 := by unfold row; omega
  have h2 : (row m.val d.val) % 256 = row (m.val % 32) d.val := by unfold row; omega
  have hb : (⟨(row m.val d.val) / 256, by omega⟩ : Fin 3) = subBlk m := Fin.ext h1
  have hr : (⟨(row m.val d.val) % 256, by omega⟩ : Fin 256) = rowB (subIn m) d := Fin.ext h2
  have e : cols3 f (ix2 q (rowF m d)) = f ⟨(row m.val d.val) / 256, by omega⟩ (ix2 q ⟨(row m.val d.val) % 256, by omega⟩) := rfl
  rw [e, hb, hr]

/-- The permuted queries. -/
theorem xpAll_apply (hx : IsX x xr) (q : Fin 250) (m : Fin 96) (d : Fin 8) :
    xpAll x (ix2 (qF q) (rowF m d)) = ((xr q m d : ℝ) : EReal) := by
  unfold xpAll
  rw [cols3_rowF, xpSt_eq, xpB_real hx, blkSub_sub]

/-- A row's scale: the largest of the entries the row's subspace lets through, and zeros. -/
theorem scB_apply (hs : IsS s sr) (h0 : ∀ m, 0 ≤ sr m) (b : Fin 3) (i : Fin 32) (d : Fin 8) :
    scB s b (ix2 0 (rowB i d)) = ((sr (blkSub b i) : ℝ) : EReal) := by
  have hsub : sub (rowB i d).val = i.val := sub_row _ _ d.isLt
  unfold scB scale1
  pointwise
  rw [bits_neg_inf]
  have e : ∀ m : Fin 96, (if 0 < selB (F := Ideal) b (ix2 m (rowB i d)) then s (ix2 m 0) else 0)
      = if m = blkSub b i then ((sr (blkSub b i) : ℝ) : EReal) else 0 := by
    intro m
    rw [selB_apply, hsub]
    by_cases h : m = blkSub b i
    · subst h
      rw [if_pos (show (blkSub b i).val = 32 * b.val + i.val from rfl), if_pos (by norm_num), if_pos rfl, hs]
    · rw [if_neg (fun e : m.val = 32 * b.val + i.val => h (Fin.ext e)), if_neg (lt_irrefl _), if_neg h]
  refine le_antisymm ?_ ?_
  · refine Finset.fold_max_le _ |>.2 ⟨bot_le, fun m _ => ?_⟩
    refine (e m).le.trans ?_
    by_cases h : m = blkSub b i
    · rw [if_pos h]
    · rw [if_neg h]; exact EReal.coe_nonneg.2 (h0 _)
  · refine Finset.le_fold_max _ |>.2 (.inr ⟨blkSub b i, Finset.mem_univ _, ?_⟩)
    refine le_trans ?_ (e _).ge
    rw [if_pos rfl]

theorem xsSt_real (hx : IsX x xr) (hs : IsS s sr) (h0 : ∀ m, 0 ≤ sr m) (b : Fin 3) (q : Fin 250) (i : Fin 32) (d : Fin 8) :
    xsSt x s b (ix2 (qF q) (rowB i d)) = ((xr q (blkSub b i) d * (-2 * sr (blkSub b i)) : ℝ) : EReal) := by
  unfold xsSt
  pointwise
  rw [xpB_real hx, scB_apply hs h0, bits_neg_two, ← EReal.coe_mul, ← EReal.coe_mul]

/-- The scaled queries. -/
theorem xsAll_apply (hx : IsX x xr) (hs : IsS s sr) (h0 : ∀ m, 0 ≤ sr m) (q : Fin 250) (m : Fin 96) (d : Fin 8) :
    xsAll x s (ix2 (qF q) (rowF m d)) = ((xr q m d * (-2 * sr m) : ℝ) : EReal) := by
  unfold xsAll
  rw [cols3_rowF, xsSt_real hx hs h0, blkSub_sub]

theorem hiB_real (hx : IsX x xr) (b : Fin 3) (q : Fin 250) (i : Fin 32) (d : Fin 8) :
    hiB x b (ix2 (qF q) (rowB i d)) = ((xr q (blkSub b i) d * xr q (blkSub b i) d : ℝ) : EReal) := by
  unfold hiB
  pointwise
  rw [xpB_real hx, ← EReal.coe_mul]

theorem loB_real (hx : IsX x xr) (b : Fin 3) (q : Fin 250) (i : Fin 32) (d : Fin 8) :
    loB x b (ix2 (qF q) (rowB i d)) = 0 := by
  unfold loB
  pointwise
  rw [xpB_real hx, hiB_real hx, ← EReal.coe_mul, ← EReal.coe_sub, sub_self, EReal.coe_zero]

theorem xnormAdd_apply (hx : IsX x xr) (b : Fin 3) (a : FVec Ideal S96x256 .f32) (m : Fin 96) (q : Fin 250) :
    xnormAdd x b a (ix2 m (qF q)) = a (ix2 m (qF q))
      + if subBlk m = b then ∑ d : Fin 8, hiB x b (ix2 (qF q) (rowB (subIn m) d)) else 0 := by
  unfold xnormAdd
  pointwise
  rw [sum_sel b m (fun r => hiB x b (ix2 (qF q) r)), sum_sel b m (fun r => loB x b (ix2 (qF q) r))]
  have : (∑ d : Fin 8, loB x b (ix2 (qF q) (rowB (subIn m) d))) = 0 := Finset.sum_eq_zero fun d _ => loB_real hx _ _ _ _
  rw [this]
  simp

/-- A query's squared norm in a subspace. -/
def xn2 (xr : Fin 250 → Fin 96 → Fin 8 → ℝ) (q : Fin 250) (m : Fin 96) : ℝ := ∑ d : Fin 8, xr q m d * xr q m d

theorem xnormV_apply (hx : IsX x xr) (m : Fin 96) (q : Fin 250) :
    xnormV x (ix2 m (qF q)) = ((xn2 xr q m : ℝ) : EReal) := by
  unfold xnormV
  rw [xnormAdd_apply hx, xnormAdd_apply hx, xnormAdd_apply hx]
  have e : (broadcast S96x256 (Scalar.ofBits (F := Ideal) .f32 0x00000000#32)) (ix2 m (qF q)) = (0 : EReal) :=
    Ideal.ofBits_zero_f32
  rw [e]
  refine (sum_blk (subBlk m) fun b => ∑ d : Fin 8, hiB x b (ix2 (qF q) (rowB (subIn m) d))).trans ?_
  unfold xn2
  rw [coe_sum]
  refine Finset.sum_congr rfl fun d _ => ?_
  rw [hiB_real hx, blkSub_sub]

theorem xnormAll_apply (hx : IsX x xr) (m : Fin 96) (q : Fin 250) :
    xnormAll x (ix2 m (qF q)) = ((xn2 xr q m : ℝ) : EReal) := by
  unfold xnormAll
  pointwise
  exact xnormV_apply hx m q

/-- A query's squared norm, every lane alike. -/
theorem xnV_apply (hx : IsX x xr) (q : Fin 250) (l : Fin 128) :
    xnV x (ix2 (qF q) l) = ((∑ m : Fin 96, xn2 xr q m : ℝ) : EReal) := by
  unfold xnV
  pointwise
  rw [coe_sum]
  exact Finset.sum_congr rfl fun m _ => xnormV_apply hx m q

/-! ## The codewords -/

theorem cbB_apply (W : Vec Ideal S192x256 .i32) (b : Fin 3) (r k : Fin 256) :
    cbB (wB W b) (ix2 r k) = cw W (blkRow b r) k := by
  unfold cbB
  pointwise
  rw [bytes256]
  unfold cw wB
  have h1 : (blkRow b r).val / 4 = 64 * b.val + r.val / 4 := by show (256 * b.val + r.val) / 4 = _; omega
  have h2 : (blkRow b r).val % 4 = r.val % 4 := by show (256 * b.val + r.val) % 4 = _; omega
  rw [h2]
  refine congrArg (fun z => Ideal.ofBits .fp8e4m3 (byteOf (W z) (r.val % 4))) ?_
  funext a
  apply Fin.ext
  rw [ValueKit.rect_emb_unit_val]
  match a with
  | ⟨0, _⟩ => exact h1.symm
  | ⟨1, _⟩ => exact Nat.zero_add _

theorem cbB_real (hW : IsW W cr) (b : Fin 3) (i : Fin 32) (d : Fin 8) (k : Fin 256) :
    cbB (wB W b) (ix2 (rowB i d) k) = ((cr (blkSub b i) d k : ℝ) : EReal) := by
  rw [cbB_apply, blkRow_rowB, hW]

theorem cnAdd_apply (w : Vec Ideal S64x256 .i32) (b : Fin 3) (a : FVec Ideal S96x256 .f32) (m : Fin 96) (k : Fin 256) :
    cnAdd w b a (ix2 m k) = a (ix2 m k)
      + if subBlk m = b then ∑ d : Fin 8, cbB w (ix2 (rowB (subIn m) d) k) * cbB w (ix2 (rowB (subIn m) d) k) else 0 := by
  unfold cnAdd
  pointwise
  rw [sum_sel b m (fun r => cbB w (ix2 r k) * cbB w (ix2 r k))]

/-- A codeword's squared norm, before and after the scale. -/
def cn2 (cr : Fin 96 → Fin 8 → Fin 256 → ℝ) (m : Fin 96) (k : Fin 256) : ℝ := ∑ d : Fin 8, cr m d k * cr m d k

theorem cnAll_apply (hW : IsW W cr) (hs : IsS s sr) (m : Fin 96) (k : Fin 256) :
    cnAll W s (ix2 m k) = ((cn2 cr m k * (sr m * sr m) : ℝ) : EReal) := by
  unfold cnAll cnV scale1
  pointwise
  rw [cnAdd_apply, cnAdd_apply, cnAdd_apply, hs]
  have e : (broadcast S96x256 (0 : EReal)) (ix2 m k) = (0 : EReal) := rfl
  rw [e]
  rw [sum_blk (subBlk m) fun b => ∑ d : Fin 8, cbB (wB W b) (ix2 (rowB (subIn m) d) k) * cbB (wB W b) (ix2 (rowB (subIn m) d) k)]
  have : (∑ d : Fin 8, cbB (wB W (subBlk m)) (ix2 (rowB (subIn m) d) k) * cbB (wB W (subBlk m)) (ix2 (rowB (subIn m) d) k))
      = ((cn2 cr m k : ℝ) : EReal) := by
    unfold cn2
    rw [coe_sum]
    refine Finset.sum_congr rfl fun d _ => ?_
    rw [cbB_real hW, blkSub_sub, ← EReal.coe_mul]
  rw [this, ← EReal.coe_mul, ← EReal.coe_mul]

end PQ

end
-- ==== Proof.HostKI.lean ====
module

public import proofs.«01_k».proof.Proof.KIValue
public import proofs.«01_k».proof.Proof.InitKI
public import Idealize.ShloMosaic.Lib.StableHlo.ReadAt
public import Idealize.ShloMosaic.Lib.BitcastConvert

/-! What the host lines before the region leave for the kernel, at an index: the scales broadcast along their rows, and
the words that pack four bytes of a codebook vector each. -/

@[expose] public section

set_option maxRecDepth 16384

noncomputable section

namespace Cert.KernelIdeal.Val

open Idealize.ShloMosaic
open Cert.KernelIdeal.Gen
open PQ (byteOf cw rowF)

variable (m : (ℓ : Loc nD τ sig) → Buf (Elt Ideal) ℓ)

/-- The scales are broadcast along their rows. -/
theorem aS_apply (c : Dev nD) (i : Fin 96) (l : Fin 128) :
    (aS m c : S96x128.Idx → EReal) (ix2 i l) = (m ((c.tc : Thread nD τ).loc main_arg2) : S96.Idx → EReal) (ix1 i) := by
  unfold aS V
  after_reads_at

/-- A byte of a widened word is the narrow element it was made from. -/
theorem widen_byte (x : S12x8x256x2x4.Idx → BitVec 8) (j : S12x8x256x2.Idx) (p : Fin 4) (z : S12x8x256x2x4.Idx)
    (hz : splits_S12x8x256x2_w32_S12x8x256x2x4_w8.snoc j p = z) :
    byteOf (Host.bitcastConvertWiden S12x8x256x2 32 x splits_S12x8x256x2_w32_S12x8x256x2x4_w8 j) p.val = x z := by
  subst hz
  apply BitVec.eq_of_getLsbD_eq
  intro q hq
  have hp : p.val < 4 := p.isLt
  unfold byteOf
  rw [BitVec.getLsbD_extractLsb', Host.bitcastConvertWiden_getLsbD _ _ _ _ _ (8 * p.val + q) (by omega)]
  simp only [hq, decide_true, Bool.true_and]
  have e1 : (8 * p.val + q) / 8 = p.val := by omega
  have e2 : (8 * p.val + q) % 8 = q := by omega
  rw [e2]
  exact congrArg (fun z => (x (splits_S12x8x256x2_w32_S12x8x256x2x4_w8.snoc j z)).getLsbD q) (Fin.ext e1)

/-- A byte of a word of the packed codebook is the byte of the codebook at the word's subspace and dimension. -/
theorem aW_byte (c : Dev nD) (r : Fin 192) (k : Fin 256) (p : Fin 4) (i : Fin 96) (d : Fin 8)
    (hi : r.val / 16 * 8 + r.val % 8 = i.val) (hd : r.val / 8 % 2 * 4 + p.val = d.val) :
    byteOf ((aW m c : S192x256.Idx → BitVec 32) (ix2 r k)) p.val
      = (m ((c.tc : Thread nD τ).loc main_arg1) : S96x256x8.Idx → BitVec 8) (ix3 i k d) := by
  unfold aW V
  after_reads_at
  refine (widen_byte _ _ p _ rfl).trans ?_
  have h3 : ∀ (a : Fin 96) (b : Fin 8), a.val = i.val → b.val = d.val →
      (m ((c.tc : Thread nD τ).loc main_arg1) : S96x256x8.Idx → BitVec 8) (ix3 a k b)
        = (m ((c.tc : Thread nD τ).loc main_arg1) : S96x256x8.Idx → BitVec 8) (ix3 i k d) := by
    intro a b ha hb
    rw [Fin.ext ha, Fin.ext hb]
  exact h3 _ _ hi hd

/-- The number at a row of the codebook words is the number the codebook byte writes. -/
theorem aW_cw (c : Dev nD) (i : Fin 96) (d : Fin 8) (k : Fin 256) :
    cw (aW m c) (rowF i d) k
      = Ideal.ofBits .fp8e4m3 ((m ((c.tc : Thread nD τ).loc main_arg1) : S96x256x8.Idx → BitVec 8) (ix3 i k d)) := by
  have hi : i.val < 96 := i.isLt
  have hd : d.val < 8 := d.isLt
  unfold cw
  refine congrArg (Ideal.ofBits .fp8e4m3) (aW_byte m c _ k ⟨(rowF i d).val % 4, Nat.mod_lt _ (by decide)⟩ i d ?_ ?_)
  · show PQ.row i.val d.val / 4 / 16 * 8 + PQ.row i.val d.val / 4 % 8 = i.val
    unfold PQ.row; omega
  · show PQ.row i.val d.val / 4 / 8 % 2 * 4 + PQ.row i.val d.val % 4 = d.val
    unfold PQ.row; omega

end Cert.KernelIdeal.Val
end
-- ==== Proof.TKI.lean ====
module

public import proofs.«01_k».proof.Proof.InitKI

/-! What a step writes of `T`, at an index and over the extended reals: the query's squared norm in the subspace, plus the
codeword's, less twice their product. -/

@[expose] public section

noncomputable section

namespace PQ

open Idealize.ShloMosaic
open scoped BigOperators

/-- The step's first query, within its eight rows and within its 128 lanes. -/
theorem step8 (t : Fin 64) (j : Fin 4) :
    Scalar.addi (sfmod (q0 (BitVec.ofNat 32 t.val)) 8#32) (BitVec.ofNat 32 j.val)
      = BitVec.ofNat 32 (4 * min t.val 62 % 8 + j.val) := by
  revert t j; decide +kernel
theorem step128 (t : Fin 64) (j : Fin 4) :
    (Scalar.addi (sfmod (q0 (BitVec.ofNat 32 t.val)) 128#32) (BitVec.ofNat 32 j.val)).toNat % 128
      = 4 * min t.val 62 % 128 + j.val := by
  revert t j; decide +kernel

variable {x : Vec Ideal S250x768 .bf16} {xr : Fin 250 → Fin 96 → Fin 8 → ℝ}
variable {s : Vec Ideal S96x128 .f32} {sr : Fin 96 → ℝ}
variable {W : Vec Ideal S192x256 .i32} {cr : Fin 96 → Fin 8 → Fin 256 → ℝ}

/-- The left operand of the products: query `j` of the step, in the rows of one subspace. -/
theorem lhsT_apply (t : Fin 64) (X : Vec Ideal S8x768 .bf16) (b : Fin 3) (j : Fin 4) (i : Fin 32) (r : Fin 256) :
    lhsT (q0 (BitVec.ofNat 32 t.val)) X b j (ix2 i r)
      = if i.val = sub r.val then X (ix2 ⟨4 * min t.val 62 % 8 + j.val, by omega⟩ (blkRow b r)) else 0 := by
  unfold lhsT selT
  pointwise
  rw [sub_apply32, step8]
  have hr := sub_lt (n := 4) r.isLt
  rw [sel_eq (show i.val < 2 ^ 32 by omega) (show sub ((ix2 i r 1 : Fin 256)).val < 2 ^ 32 by show sub r.val < _; omega)]
  refine congrArg (fun z => if i.val = sub r.val then z else 0) ?_
  rw [Finset.sum_eq_single (⟨4 * min t.val 62 % 8 + j.val, by omega⟩ : Fin 8)]
  · rw [sel_eq (by omega) (by omega), if_pos rfl]
    rfl
  · intro c _ hne
    rw [sel_eq (by omega) (by omega), if_neg (fun h => hne (Fin.ext h))]
  · exact fun h => absurd (Finset.mem_univ _) h

theorem dotTV_rows (q : BitVec 32) (X : Vec Ideal S8x768 .bf16) (w : Vec Ideal S64x256 .i32) (b : Fin 3) (j : Fin 4)
    (i : Fin 32) (k : Fin 256) :
    dotTV q X w b (ix2 ⟨32 * j.val + i.val, by omega⟩ k) = ∑ r, lhsT q X b j (ix2 i r) * cbB w (ix2 r k) := by
  unfold dotTV
  match j with
  | 0 => pointwise
  | 1 => pointwise
  | 2 =>
    pointwise
    refine Finset.sum_congr rfl fun r _ => congrArg (fun z => z * cbB w (ix2 r k)) ?_
    have e : (⟨64 + i.val - 32 - 32, by omega⟩ : Fin 32) = i := Fin.ext (by show 64 + i.val - 32 - 32 = i.val; omega)
    rw [dif_neg (by omega), dif_neg (by omega), dif_pos (by omega), e]
  | 3 =>
    pointwise
    refine Finset.sum_congr rfl fun r _ => congrArg (fun z => z * cbB w (ix2 r k)) ?_
    have e : (⟨96 + i.val - 32 - 32 - 32, by omega⟩ : Fin 32) = i :=
      Fin.ext (by show 96 + i.val - 32 - 32 - 32 = i.val; omega)
    rw [dif_neg (by omega), dif_neg (by omega), dif_neg (by omega), e]

/-- The products: of query `j` of the step with every codeword of the subspace. -/
theorem dotTV_apply (t : Fin 64) (X : Vec Ideal S8x768 .bf16) (w : Vec Ideal S64x256 .i32) (b : Fin 3) (j : Fin 4)
    (i : Fin 32) (k : Fin 256) :
    dotTV (q0 (BitVec.ofNat 32 t.val)) X w b (ix2 ⟨32 * j.val + i.val, by omega⟩ k)
      = ∑ d : Fin 8, X (ix2 ⟨4 * min t.val 62 % 8 + j.val, by omega⟩ (rowF (blkSub b i) d)) * cbB w (ix2 (rowB i d) k) := by
  rw [dotTV_rows]
  have e : ∀ r : Fin 256, lhsT (q0 (BitVec.ofNat 32 t.val)) X b j (ix2 i r) * cbB w (ix2 r k)
      = if i.val = sub r.val then
          X (ix2 ⟨4 * min t.val 62 % 8 + j.val, by omega⟩ (blkRow b r)) * cbB w (ix2 r k) else 0 := by
    intro r
    rw [lhsT_apply]
    by_cases h : i.val = sub r.val
    · rw [if_pos h, if_pos h]
    · rw [if_neg h, if_neg h, zero_mul]
  rw [Finset.sum_congr rfl fun r _ => e r]
  refine (sum_sub_block i fun r =>
    X (ix2 ⟨4 * min t.val 62 % 8 + j.val, by omega⟩ (blkRow b r)) * cbB w (ix2 r k)).trans ?_
  refine Finset.sum_congr rfl fun d _ => ?_
  rw [← blkRow_rowB]
  rfl

/-- `T` at a query, a subspace and a codeword. -/
def tR (xr : Fin 250 → Fin 96 → Fin 8 → ℝ) (sr : Fin 96 → ℝ) (cr : Fin 96 → Fin 8 → Fin 256 → ℝ)
    (q : Fin 250) (m : Fin 96) (k : Fin 256) : ℝ :=
  (xn2 xr q m + cn2 cr m k * (sr m * sr m)) - 2 * ((∑ d : Fin 8, xr q m d * cr m d k) * sr m)

theorem tOut_apply (t : Fin 64) (xnt : Vec Ideal S96x128 .f32) (D : FVec Ideal S128x256 .f32) (sc : Vec Ideal S32x128 .f32)
    (cn : Vec Ideal S32x256 .f32) (b : Fin 3) (j : Fin 4) (i : Fin 32) (k : Fin 256) (u : EReal)
    (hu : ∀ l, sc (ix2 i l) = u) :
    tOut (q0 (BitVec.ofNat 32 t.val)) xnt D sc cn b j (ix3 0 i k)
      = (xnt (ix2 (blkSub b i) ⟨4 * min t.val 62 % 128 + j.val, by omega⟩) + cn (ix2 i k))
        - ((2 : ℝ) : EReal) * (D (ix2 ⟨32 * j.val + i.val, by omega⟩ k) * u) := by
  unfold tOut twice
  pointwise
  rw [bits_two]
  simp only [hu, step128, dite_eq_ite, ite_self]
  by_cases h : k.val < 128
  · rw [dif_pos h]; rfl
  · rw [dif_neg h]; rfl

/-- The step's block of `T`. -/
theorem tStep_apply (t : Fin 64) (off1 off2 : Fin 2 → Nat) (h1 h2)
    (ho1 : off1 = ![8 * (min t.val 62 / 2), 0]) (ho2 : off2 = ![0, 128 * (min t.val 62 / 32)])
    (hx : IsX x xr) (hs : IsS s sr) (hW : IsW W cr) (j : Fin 4) (m : Fin 96) (k : Fin 256) (q : Fin 250)
    (hq : q.val = 4 * min t.val 62 + j.val) :
    tStep (BitVec.ofNat 32 t.val) off1 off2 h1 h2 (xpAll x) (xnormAll x) W s (cnAll W s) (ix3 j m k)
      = ((tR xr sr cr q m k : ℝ) : EReal) := by
  subst ho1 ho2
  have e0 : tStep (BitVec.ofNat 32 t.val) ![8 * (min t.val 62 / 2), 0] ![0, 128 * (min t.val 62 / 32)] h1 h2 (xpAll x)
      (xnormAll x) W s (cnAll W s) (ix3 j m k)
      = tPart (q0 (BitVec.ofNat 32 t.val))
          (fun i => xpAll x ((Rect.unit (s := S256x768) ![8 * (min t.val 62 / 2), 0] S8x768.size h1).emb i))
          (fun i => xnormAll x ((Rect.unit (s := S96x256) ![0, 128 * (min t.val 62 / 32)] S96x128.size h2).emb i))
          W s (cnAll W s) (subBlk m) j (ix3 0 (subIn m) k) := rfl
  rw [e0]
  unfold tPart
  have hsB : ∀ l, sB s (subBlk m) (ix2 (subIn m) l) = ((sr m : ℝ) : EReal) := by
    intro l
    rw [← hs m l]
    refine congrArg s ?_
    funext a
    apply Fin.ext
    rw [ValueKit.rect_emb_unit_val]
    match a with
    | ⟨0, _⟩ => show 32 * (m.val / 32) + m.val % 32 = m.val; omega
    | ⟨1, _⟩ => exact Nat.zero_add _
  have hcn : cnB (cnAll W s) (subBlk m) (ix2 (subIn m) k) = ((cn2 cr m k * (sr m * sr m) : ℝ) : EReal) := by
    rw [← cnAll_apply hW hs m k]
    refine congrArg (cnAll W s) ?_
    funext a
    apply Fin.ext
    rw [ValueKit.rect_emb_unit_val]
    match a with
    | ⟨0, _⟩ => show 32 * (m.val / 32) + m.val % 32 = m.val; omega
    | ⟨1, _⟩ => exact Nat.zero_add _
  have hxn : xnormAll x ((Rect.unit (s := S96x256) ![0, 128 * (min t.val 62 / 32)] S96x128.size h2).emb
      (ix2 m ⟨4 * min t.val 62 % 128 + j.val, by omega⟩)) = ((xn2 xr q m : ℝ) : EReal) := by
    rw [← xnormAll_apply hx m q]
    refine congrArg (xnormAll x) ?_
    funext a
    apply Fin.ext
    rw [ValueKit.rect_emb_unit_val]
    match a with
    | ⟨0, _⟩ => exact Nat.zero_add _
    | ⟨1, _⟩ => show 128 * (min t.val 62 / 32) + (4 * min t.val 62 % 128 + j.val) = q.val; omega
  have hxp : ∀ d, xpAll x ((Rect.unit (s := S256x768) ![8 * (min t.val 62 / 2), 0] S8x768.size h1).emb
      (ix2 ⟨4 * min t.val 62 % 8 + j.val, by omega⟩ (rowF m d))) = ((xr q m d : ℝ) : EReal) := by
    intro d
    rw [← xpAll_apply hx q m d]
    refine congrArg (xpAll x) ?_
    funext a
    apply Fin.ext
    rw [ValueKit.rect_emb_unit_val]
    match a with
    | ⟨0, _⟩ => show 8 * (min t.val 62 / 2) + (4 * min t.val 62 % 8 + j.val) = q.val; omega
    | ⟨1, _⟩ => exact Nat.zero_add _
  rw [tOut_apply t _ _ _ _ _ _ _ _ _ hsB, dotTV_apply, blkSub_sub, hcn]
  dsimp only
  rw [hxn]
  have hd : (∑ d : Fin 8, xpAll x ((Rect.unit (s := S256x768) ![8 * (min t.val 62 / 2), 0] S8x768.size h1).emb
      (ix2 ⟨4 * min t.val 62 % 8 + j.val, by omega⟩ (rowF m d))) * cbB (wB W (subBlk m)) (ix2 (rowB (subIn m) d) k))
      = ((∑ d : Fin 8, xr q m d * cr m d k : ℝ) : EReal) := by
    rw [coe_sum]
    refine Finset.sum_congr rfl fun d _ => ?_
    rw [hxp, cbB_real hW, blkSub_sub, ← EReal.coe_mul]
  rw [hd]
  unfold tR
  rw [← EReal.coe_mul _ (sr m), ← EReal.coe_mul 2, ← EReal.coe_add, ← EReal.coe_sub]

end PQ

end
-- ==== Proof.ScoreKI.lean ====
module

public import proofs.«01_k».proof.Proof.TKI

/-! What a step writes of the scores, at an index and over the extended reals: the sum over the subspaces of the entries
of `T` that the database vector's codes pick. -/

@[expose] public section

noncomputable section

namespace PQ

open Idealize.ShloMosaic
open scoped BigOperators

/-! ## Looking a code up -/

theorem low_word (v : Fin 256) :
    IntOp.cmpi .slt (BitVec.ofNat 32 v.val) 128#32 = (if v.val < 128 then 1#1 else 0#1)
      ∧ (IntOp.andi (BitVec.ofNat 32 v.val) 127#32).toNat % 128 = v.val % 128 := by
  revert v; decide +kernel

/-- The two halves of the table put together: a code's entry. -/
theorem look_apply {α : Type} (c : IVec S8x128 32) (tab : S8x256.Idx → α) (i : Fin 8) (l : Fin 128) (v : Fin 256)
    (hv : c (ix2 i l) = BitVec.ofNat 32 v.val) : look c tab (ix2 i l) = tab (ix2 i v) := by
  have key : ∀ (w : BitVec 32) (p : (IntOp.andi w 127#32).toNat % 128 < 256) (p' : 128 + (IntOp.andi w 127#32).toNat % 128 < 256),
      w = BitVec.ofNat 32 v.val →
      Scalar.select (IntOp.cmpi .slt w 128#32) (tab (ix2 i ⟨(IntOp.andi w 127#32).toNat % 128, p⟩))
        (tab (ix2 i ⟨128 + (IntOp.andi w 127#32).toNat % 128, p'⟩)) = tab (ix2 i v) := by
    rintro w p p' rfl
    rw [(low_word v).1]
    have h2 := (low_word v).2
    by_cases h : v.val < 128
    · rw [if_pos h]
      exact congrArg (fun z => tab (ix2 i z)) (Fin.ext (h2.trans (by omega)))
    · rw [if_neg h]
      exact congrArg (fun z => tab (ix2 i z)) (Fin.ext ((congrArg (fun z => 128 + z) h2).trans (by omega)))
  unfold look low lane
  pointwise
  exact key _ _ _ hv

/-- The code of a database vector in a subspace, as a number. -/
def codeN {n : Nat} (D : (⟨2, ![n, 96]⟩ : Shape).Idx → BitVec 8) (i : Fin n) (m : Fin 96) : Fin 256 :=
  ⟨(D (ix2 i m)).toNat, (D (ix2 i m)).isLt⟩

/-- Subspace `i` of group `g`. -/
def grpSub (g : Fin 12) (i : Fin 8) : Fin 96 := ⟨8 * g.val + i.val, by omega⟩
/-- Lane `l` of half `h` of chunk `c`. -/
def chunkLane (c : Fin 8) (h : Fin 2) (l : Fin 128) : Fin 2048 := ⟨256 * c.val + 128 * h.val + l.val, by omega⟩

theorem code_apply (D : Vec Ideal S2048x96 .i8) (c : Fin 8) (h : Fin 2) (g : Fin 12) (i : Fin 8) (l : Fin 128) :
    code (codesT (F := Ideal) (cTab D c h)) g (ix2 i l)
      = BitVec.ofNat 32 (codeN (n := 2048) D (chunkLane c h l) (grpSub g i)).val := by
  unfold code codesT
  pointwise
  have e : cTab D c h (ix2 l (grpSub g i)) = D (ix2 (chunkLane c h l) (grpSub g i)) := by
    refine congrArg D ?_
    funext a
    apply Fin.ext
    rw [ValueKit.rect_emb_unit_val]
    match a with
    | ⟨0, _⟩ => rfl
    | ⟨1, _⟩ => exact Nat.zero_add _
  refine (congrArg (BitVec.setWidth 32) e).trans ?_
  apply BitVec.eq_of_toNat_eq
  unfold codeN
  rw [BitVec.toNat_setWidth, BitVec.toNat_ofNat]

variable {x : Vec Ideal S250x768 .bf16} {xr : Fin 250 → Fin 96 → Fin 8 → ℝ}
variable {s : Vec Ideal S96x128 .f32} {sr : Fin 96 → ℝ}
variable {W : Vec Ideal S192x256 .i32} {cr : Fin 96 → Fin 8 → Fin 256 → ℝ}

/-! ## The looked-up bytes -/

theorem wordBytes_apply (c : IVec S8x128 32) (tab : Vec Ideal S8x256 .i32) (r : Fin 32) (l : Fin 128) (v : Fin 256)
    (hv : c (ix2 ⟨r.val / 4, by omega⟩ l) = BitVec.ofNat 32 v.val) :
    wordBytes (F := Ideal) c tab (ix3 0 r l)
      = Ideal.ofBits .fp8e4m3 (byteOf (tab (ix2 ⟨r.val / 4, by omega⟩ v)) (r.val % 4)) := by
  have e : shapeCast S8x256 tab (by decide) = tab := by
    funext j
    pointwise
  unfold wordBytes
  rw [e]
  pointwise
  rw [bytes32, look_apply _ _ _ _ v hv]

/-- The byte a lane's code picks in row `R`. -/
theorem byteAt_apply (D : Vec Ideal S2048x96 .i8) (c : Fin 8) (h : Fin 2) (m : Fin 96) (d : Fin 8) (l : Fin 128) :
    byteAt (F := Ideal) W (codesT (F := Ideal) (cTab D c h)) (rowF m d) l
      = cw W (rowF m d) (codeN (n := 2048) D (chunkLane c h l) m) := by
  have hg : grpSub ⟨(rowF m d).val / 64, by omega⟩ ⟨(rowF m d).val % 32 / 4, by omega⟩ = m := Fin.ext (by
    show 8 * (row m.val d.val / 64) + row m.val d.val % 32 / 4 = m.val
    unfold row; omega)
  unfold byteAt
  rw [ix3_old]
  rw [wordBytes_apply _ _ _ _ _ (code_apply D c h _ _ l), hg]
  unfold cw wTab
  have h4 : (rowF m d).val % 32 % 4 = (rowF m d).val % 4 := by omega
  dsimp only
  rw [h4]
  refine congrArg (fun z => Ideal.ofBits .fp8e4m3 (byteOf (W z) ((rowF m d).val % 4))) ?_
  funext a
  apply Fin.ext
  rw [ValueKit.rect_emb_unit_val]
  match a with
  | ⟨0, _⟩ =>
    show 16 * ((rowF m d).val / 64) + 8 * ((rowF m d).val / 32 % 2) + (rowF m d).val % 32 / 4 = (rowF m d).val / 4
    omega
  | ⟨1, _⟩ => exact Nat.zero_add _

/-! ## The looked-up squared norms -/

theorem sum_groups {M : Type} [AddCommMonoid M] (f : Fin 96 → M) :
    ∑ m, f m = ∑ i : Fin 8, ∑ g : Fin 12, f (grpSub g i) := by
  rw [Finset.sum_comm, ← Fintype.sum_prod_type', ← (finProdFinEquiv (m := 12) (n := 8)).sum_comp]
  refine Finset.sum_congr rfl fun p _ => congrArg f (Fin.ext ?_)
  show p.2.val + 8 * p.1.val = 8 * p.1.val + p.2.val
  omega

theorem accGroups_apply (C : Vec Ideal S96x256 .f32) (v : IVec S96x128 32) (n g : Nat) (hg : g + n = 12)
    (acc : FVec Ideal S8x128 .f32) (j : S8x128.Idx) :
    accGroups C v n g hg acc j = acc j
      + ∑ i : Fin n, look (code v ⟨g + i.val, by omega⟩) (cnTab C ⟨g + i.val, by omega⟩) j := by
  induction n generalizing g acc with
  | zero => rw [accGroups, Finset.univ_eq_empty, Finset.sum_empty]; exact (add_zero (acc j : EReal)).symm
  | succ n ih =>
    rw [accGroups, ih, Fin.sum_univ_succ]
    have e : ∀ i : Fin n, (⟨g + 1 + i.val, by omega⟩ : Fin 12) = ⟨g + i.succ.val, by have := i.isLt; simp only [Fin.val_succ]; omega⟩ :=
      fun i => Fin.ext (by simp only [Fin.val_succ]; omega)
    simp only [e]
    exact add_assoc (G := EReal) _ _ _

theorem cnTab_apply (C : Vec Ideal S96x256 .f32) (g : Fin 12) (i : Fin 8) (k : Fin 256) :
    cnTab C g (ix2 i k) = C (ix2 (grpSub g i) k) := by
  refine congrArg C ?_
  funext a
  apply Fin.ext
  rw [ValueKit.rect_emb_unit_val]
  match a with
  | ⟨0, _⟩ => rfl
  | ⟨1, _⟩ => exact Nat.zero_add _

/-- A lane's sum of squared norms. -/
theorem normHalf_apply (C : Vec Ideal S96x256 .f32) (D : Vec Ideal S2048x96 .i8) (c : Fin 8) (h : Fin 2) (l : Fin 128) :
    normHalf C D c h (ix2 0 l) = ∑ m : Fin 96, C (ix2 m (codeN (n := 2048) D (chunkLane c h l) m)) := by
  unfold normHalf halfSum
  pointwise
  rw [sum_groups]
  refine Finset.sum_congr rfl fun i _ => ?_
  rw [accGroups_apply]
  refine (congrArg₂ (· + ·) (show broadcast S8x128 (0 : EReal) (ix2 i l) = (0 : EReal) from rfl) rfl).trans ((zero_add _).trans ?_)
  refine Finset.sum_congr rfl fun g _ => ?_
  have e : (⟨0 + g.val, by omega⟩ : Fin 12) = g := Fin.ext (Nat.zero_add _)
  rw [e, look_apply _ _ _ _ _ (code_apply D c h g i l), cnTab_apply]

/-! ## The scores -/

/-- A score: `T` summed over the subspaces at the codes. -/
def scR (xr : Fin 250 → Fin 96 → Fin 8 → ℝ) (sr : Fin 96 → ℝ) (cr : Fin 96 → Fin 8 → Fin 256 → ℝ)
    (q : Fin 250) (v : Fin 96 → Fin 256) : ℝ := ∑ m : Fin 96, tR xr sr cr q m (v m)

theorem scChunk_apply (hx : IsX x xr) (hs : IsS s sr) (h0 : ∀ m, 0 ≤ sr m) (hW : IsW W cr) (D : Vec Ideal S2048x96 .i8)
    (c : Fin 8) (q : Fin 250) (h : Fin 2) (l : Fin 128) :
    scChunk W D (cnAll W s) (xsAll x s) (xnV x) c (ix2 q ⟨128 * h.val + l.val, by omega⟩)
      = ((scR xr sr cr q (codeN (n := 2048) D (chunkLane c h l)) : ℝ) : EReal) := by
  have hy : ∀ m d, yChunk W D c (ix3 0 (rowF m d) ⟨128 * h.val + l.val, by omega⟩)
      = ((cr m d (codeN (n := 2048) D (chunkLane c h l) m) : ℝ) : EReal) := by
    intro m d
    rw [← hW, ← byteAt_apply]
    have e1 : (⟨(128 * h.val + l.val) / 128, by omega⟩ : Fin 2) = h := Fin.ext (by show (128 * h.val + l.val) / 128 = h.val; omega)
    have e2 : (⟨(128 * h.val + l.val) % 128, by omega⟩ : Fin 128) = l := Fin.ext (by show (128 * h.val + l.val) % 128 = l.val; omega)
    have e0 : yChunk W D c (ix3 0 (rowF m d) ⟨128 * h.val + l.val, by omega⟩)
      = byteAt (F := Ideal) W (codesT (F := Ideal) (cTab D c ⟨(128 * h.val + l.val) / 128, by omega⟩)) (rowF m d)
          ⟨(128 * h.val + l.val) % 128, by omega⟩ := rfl
    rw [e0, e1, e2]
  have hn : ∀ h l, normHalf (cnAll W s) D c h (ix2 0 l)
      = ((∑ m : Fin 96, cn2 cr m (codeN (n := 2048) D (chunkLane c h l) m) * (sr m * sr m) : ℝ) : EReal) := by
    intro h l
    rw [normHalf_apply, coe_sum]
    exact Finset.sum_congr rfl fun m _ => cnAll_apply hW hs m _
  have hd : (∑ R : Fin 768, xsAll x s (ix2 (qF q) R) * yChunk W D c (ix3 0 R ⟨128 * h.val + l.val, by omega⟩))
      = ((∑ m : Fin 96, ∑ d : Fin 8, xr q m d * (-2 * sr m) * cr m d (codeN (n := 2048) D (chunkLane c h l) m) : ℝ) : EReal) := by
    rw [sum_rows, coe_sum]
    refine Finset.sum_congr rfl fun m _ => ?_
    rw [coe_sum]
    refine Finset.sum_congr rfl fun d _ => ?_
    refine (congrArg₂ (· * ·) (xsAll_apply hx hs h0 q m d) (hy m d)).trans ?_
    rw [← EReal.coe_mul]
  have hr : (∑ m : Fin 96, xn2 xr q m) + (∑ m : Fin 96, cn2 cr m (codeN (n := 2048) D (chunkLane c h l) m) * (sr m * sr m))
      + (∑ m : Fin 96, ∑ d : Fin 8, xr q m d * (-2 * sr m) * cr m d (codeN (n := 2048) D (chunkLane c h l) m))
      = scR xr sr cr q (codeN (n := 2048) D (chunkLane c h l)) := by
    unfold scR
    rw [← Finset.sum_add_distrib, ← Finset.sum_add_distrib]
    refine Finset.sum_congr rfl fun m _ => ?_
    unfold tR
    rw [sub_eq_add_neg]
    refine congrArg₂ (· + ·) rfl ?_
    rw [Finset.sum_mul, Finset.mul_sum, ← Finset.sum_neg_distrib]
    refine Finset.sum_congr rfl fun d _ => ?_
    ring
  rw [← hr, EReal.coe_add, EReal.coe_add, ← hd]
  unfold scChunk chunkOut
  pointwise
  refine congrArg₂ (· + ·) (congrArg₂ (· + ·) ?_ ?_) rfl
  · by_cases hl : 128 * h.val + l.val < 128
    · rw [dif_pos hl]; exact xnV_apply hx q _
    · rw [dif_neg hl]; exact xnV_apply hx q _
  · match h with
    | 0 =>
      have hl : 128 * (0 : Fin 2).val + l.val < 128 := by show 128 * 0 + l.val < 128; omega
      rw [dif_pos hl]
      refine (congrArg _ (congrArg (ix2 0) (Fin.ext ?_))).trans (hn 0 l)
      show 128 * 0 + l.val = l.val; omega
    | 1 =>
      have hl : ¬ 128 * (1 : Fin 2).val + l.val < 128 := by show ¬ 128 * 1 + l.val < 128; omega
      rw [dif_neg hl]
      refine (congrArg _ (congrArg (ix2 0) (Fin.ext ?_))).trans (hn 1 l)
      show 128 * 1 + l.val - 128 = l.val; omega

end PQ

end
-- ==== Proof.ArrKI.lean ====
module

public import proofs.«01_k».proof.Proof.HostKI
public import proofs.«01_k».proof.Proof.ScoreKI

/-! What the two result arrays of the idealized kernel hold after the run. -/

@[expose] public section

set_option maxRecDepth 16384

noncomputable section

namespace Cert.KernelIdeal.Val

open Idealize.ShloMosaic Idealize.ShloMosaic.TcCoe Idealize.ShloMosaic.Tactic
open Cert.KernelIdeal.Gen
open PQ (byteOf cw rowF)

variable (m : (ℓ : Loc nD τ sig) → Buf (Elt Ideal) ℓ)

/-! ## Where the blocks lie -/

theorem coords0 : ∀ t : Fin cfg0.N, (grid0.coords t 0).val = t.val := by decide +kernel
theorem index3_0 : ∀ t : Fin cfg0.N, win0_3.index t 0 = t.val := by decide +kernel
theorem index3_1 : ∀ t : Fin cfg0.N, win0_3.index t 1 = 0 := by decide +kernel
theorem index4_0 : ∀ t : Fin cfg0.N, win0_4.index t 0 = 0 := by decide +kernel
theorem index4_1 : ∀ t : Fin cfg0.N, win0_4.index t 1 = t.val := by decide +kernel
theorem index5_0 : ∀ t : Fin cfg0.N, win0_5.index t 0 = min (grid0.coords t 0).val 62 := by decide +kernel
theorem index5_1 : ∀ t : Fin cfg0.N, win0_5.index t 1 = 0 := by decide +kernel
theorem index5_2 : ∀ t : Fin cfg0.N, win0_5.index t 2 = 0 := by decide +kernel

/-- Row `i` of point `t`'s codes is row `2048 t + i` of the database codes. -/
theorem aD_apply (c : Dev nD) (t : Fin cfg0.N) (i : Fin 2048) (j : Fin 96) (n : Fin 131072) (hn : n.val = 2048 * t.val + i.val) :
    (aD m c t : S2048x96.Idx → BitVec 8) (ix2 i j)
      = (m ((c.tc : Thread nD τ).loc main_arg3) : S131072x96.Idx → BitVec 8) (ix2 n j) := by
  show (V m c main_arg3 : S131072x96.Idx → BitVec 8) ((win0_3.blk t).view.emb (ix2 i j)) = _
  rw [V_main_arg3]
  refine congrArg (m ((c.tc : Thread nD τ).loc main_arg3) : S131072x96.Idx → BitVec 8) ?_
  funext a
  apply Fin.ext
  fin_cases a
  · refine Eq.trans ?_ hn.symm
    blk_simp [index3_0]
    show t.val * 2048 + i.val = 2048 * t.val + i.val
    omega
  · blk_simp [index3_1]
    rfl

/-! ## What the arrays hold -/

variable {xr : Fin 250 → Fin 96 → Fin 8 → ℝ} {sr : Fin 96 → ℝ} {cr : Fin 96 → Fin 8 → Fin 256 → ℝ}

/-- The table `T`, entry by entry. -/
def resT (xr : Fin 250 → Fin 96 → Fin 8 → ℝ) (sr : Fin 96 → ℝ) (cr : Fin 96 → Fin 8 → Fin 256 → ℝ) :
    S250x96x256.Idx → EReal := fun j => ((PQ.tR xr sr cr (j 0) (j 1) (j 2) : ℝ) : EReal)

/-- The scores, entry by entry: the sum of the entries of `T` that the vector's codes pick. -/
def resO (xr : Fin 250 → Fin 96 → Fin 8 → ℝ) (sr : Fin 96 → ℝ) (cr : Fin 96 → Fin 8 → Fin 256 → ℝ)
    (D : S131072x96.Idx → BitVec 8) : S250x131072.Idx → EReal :=
  fun j => ((PQ.scR xr sr cr (j 0) (PQ.codeN (n := 131072) D (j 1)) : ℝ) : EReal)

theorem arr_O (c : Dev nD) (hx : PQ.IsX (aX m c) xr) (hs : PQ.IsS (aS m c) sr) (h0 : ∀ i, 0 ≤ sr i)
    (hW : PQ.IsW (aW m c) cr) :
    ((dats m 0 c).arrAt 4 cfg0.N : S250x131072.Idx → EReal)
      = resO xr sr cr (m ((c.tc : Thread nD τ).loc main_arg3)) := by
  refine (dats m 0 c).arrAt_eq_of_covers 4 _ (by decide +kernel) fun t hf y => ?_
  blk_simp
  rw [after0_4]
  have hy1 : (y 1).val < 2048 := (y 1).isLt
  have e0 : (win0_4.blk t).view.emb y 0 = y 0 := by
    apply Fin.ext
    blk_simp [index4_0]
  have e1 : ((win0_4.blk t).view.emb y 1).val = 2048 * t.val + (y 1).val := by
    blk_simp [index4_1]
    omega
  have hl : ∀ (p : (y 1).val % 256 < 256), (⟨(y 1).val % 256, p⟩ : Fin 256)
      = ⟨128 * ((y 1).val % 256 / 128) + (y 1).val % 128, by omega⟩ := fun p => Fin.ext (by show _ = _; simp only; omega)
  show PQ.scChunk _ _ _ _ _ ⟨(y 1).val / 256, _⟩ (ix2 (y 0) ⟨(y 1).val % 256, _⟩) = _
  rw [hl]
  refine (PQ.scChunk_apply hx hs h0 hW (aD m c t) ⟨(y 1).val / 256, by omega⟩ (y 0) ⟨(y 1).val % 256 / 128, by omega⟩
    ⟨(y 1).val % 128, by omega⟩).trans ?_
  unfold resO
  rw [e0]
  refine congrArg (fun v => ((PQ.scR xr sr cr (y 0) v : ℝ) : EReal)) ?_
  funext j
  apply Fin.ext
  refine congrArg BitVec.toNat (aD_apply m c t _ j _ ?_)
  rw [e1]
  show _ = 2048 * t.val + (256 * ((y 1).val / 256) + 128 * ((y 1).val % 256 / 128) + (y 1).val % 128)
  omega

theorem emb5_0 (t : Fin cfg0.N) (y : ((cfg0.win 5).xblock (cfg0.grid.coords t)).Idx) :
    ((win0_5.blk t).view.emb y 0).val = 4 * min (grid0.coords t 0).val 62 + (y 0).val := by
  blk_simp [index5_0]
  omega

theorem emb5_1 (t : Fin cfg0.N) (y : ((cfg0.win 5).xblock (cfg0.grid.coords t)).Idx) :
    ((win0_5.blk t).view.emb y 1).val = (y 1).val := by
  blk_simp [index5_1]

theorem emb5_2 (t : Fin cfg0.N) (y : ((cfg0.win 5).xblock (cfg0.grid.coords t)).Idx) :
    ((win0_5.blk t).view.emb y 2).val = (y 2).val := by
  exact Pipeline.Window.rect_emb_val_of_index_zero win0_5 t 2 (index5_2 t) y

theorem arr_T (c : Dev nD) (hx : PQ.IsX (aX m c) xr) (hs : PQ.IsS (aS m c) sr)
    (hW : PQ.IsW (aW m c) cr) :
    ((dats m 0 c).arrAt 5 cfg0.N : S250x96x256.Idx → EReal) = resT xr sr cr := by
  refine (dats m 0 c).arrAt_eq_of_covers 5 _ (by decide +kernel) fun t hf y => ?_
  blk_simp
  rw [after0_5]
  have e0 := emb5_0 t y
  have e1 := emb5_1 t y
  have e2 := emb5_2 t y
  have hj : (cfg0.win 5).xinj (cfg0.grid.coords t) y
      = ix3 ⟨(y 0).val, ((cfg0.win 5).xinj (cfg0.grid.coords t) y 0).isLt⟩ ((win0_5.blk t).view.emb y 1) ((win0_5.blk t).view.emb y 2) := by
    funext a
    apply Fin.ext
    fin_cases a
    · rfl
    · exact e1.symm
    · exact e2.symm
  rw [hj]
  exact PQ.tStep_apply (grid0.coords t 0) _ _ _ _ (off1_closed _) (off2_closed _) hx hs hW _ _ _ _ e0

end Cert.KernelIdeal.Val
end
-- ==== Proof.RefR.lean ====
module

public import proofs.«01_k».proof.Proof.Gen.ReferenceIdeal.Frame
public import proofs.«01_k».proof.Proof.ScoreKI
public import Idealize.ShloMosaic.Lib.StableHlo.ReadAt
public import Idealize.ShloMosaic.Lib.Claim

/-! The reference. -/

@[expose] public section

set_option maxRecDepth 16384

noncomputable section

namespace Cert.ReferenceIdeal.Val

open Idealize.ShloMosaic Idealize.ShloMosaic.TcCoe Idealize.ShloMosaic.Tactic
open Cert.ReferenceIdeal.Gen

variable (m : (ℓ : Loc nD τ sig) → Buf (Elt Ideal) ℓ)

/-! ## The index words -/

/-- An index word below 256 is not negative, so jnp's wrap leaves it. -/
theorem wrap_word (v : Fin 256) (z : BitVec 32) :
    Scalar.select (IntOp.cmpi .slt (BitVec.ofNat 32 v.val) 0#32) z (BitVec.ofNat 32 v.val) = BitVec.ofNat 32 v.val := by
  have h : IntOp.cmpi .slt (BitVec.ofNat 32 v.val) 0#32 = 0#1 := by revert v; decide +kernel
  rw [h]
  rfl

/-- The first index is the subspace, -/
theorem v39_apply (V : Valuation τ sig (Elt Ideal)) (n : Fin 131072) (i : Fin 96) :
    (StableHlo.upto hostOps1 V 47 (Proc.devRef .tc main_v39) : S131072x96x1.Idx → BitVec 32) (ix3 n i 0) = BitVec.ofNat 32 i.val := by
  after_reads_at
  exact wrap_word ⟨i.val, by omega⟩ _

/-- and the second the database vector's code there. -/
theorem v40_apply (V : Valuation τ sig (Elt Ideal)) (n : Fin 131072) (i : Fin 96) :
    (StableHlo.upto hostOps1 V 47 (Proc.devRef .tc main_v40) : S131072x96x1.Idx → BitVec 32) (ix3 n i 0)
      = BitVec.ofNat 32 (PQ.codeN (n := 131072) (V (Proc.devRef .tc main_arg3) : S131072x96.Idx → BitVec 8) n i).val := by
  after_reads_at
  have e : BitVec.setWidth 32 ((V (Proc.devRef .tc main_arg3) : S131072x96.Idx → BitVec 8) (ix2 n i))
      = BitVec.ofNat 32 (PQ.codeN (n := 131072) (V (Proc.devRef .tc main_arg3) : S131072x96.Idx → BitVec 8) n i).val :=
    (BitVec.ofNat_toNat 32 _).symm
  exact (congrArg (fun w => Scalar.select (IntOp.cmpi .slt w 0#32) (IntOp.addi w 256#32) w) e).trans (wrap_word _ _)

/-! ## The scores from the table -/

theorem read44 (V : Valuation τ sig (Elt Ideal)) :
    (StableHlo.after hostOps1 V (Proc.devRef .tc main_v44) : S250x131072.Idx → EReal)
    = truncf (F := Ideal) .bf16 (Host.reduceAdd (F := Ideal) (φ := .f32)
        (Host.gather gather_S250x96x256_S131072x96x2_S250x131072x96_0_12_n_n_12_2_25011
          (StableHlo.after hostOps1 V (Proc.devRef .tc main_v24) : S250x96x256.Idx → EReal)
          (concatenate S131072x96x2 2
            [⟨S131072x96x1, (StableHlo.upto hostOps1 V 47 (Proc.devRef .tc main_v39) : S131072x96x1.Idx → BitVec 32)⟩,
              ⟨S131072x96x1, StableHlo.upto hostOps1 V 47 (Proc.devRef .tc main_v40)⟩]
            concatenates_S131072x96x1_S131072x96x1_S131072x96x2_d2))
        (constant S_ FTy.f32 0#32) reducesTo_S250x131072x96_S250x131072_d2 h_S_)
      bitsLt_bf16_f32 := by
  after_reads_simp

theorem gather_apply {α : Type} (T : S250x96x256.Idx → α) (idx : IVec S131072x96x2 32) (q : Fin 250) (n : Fin 131072) (j : Fin 96)
    (i : Fin 96) (k : Fin 256) (h0 : idx (ix3 n j 0) = BitVec.ofNat 32 i.val) (h1 : idx (ix3 n j 1) = BitVec.ofNat 32 k.val) :
    Host.gather gather_S250x96x256_S131072x96x2_S250x131072x96_0_12_n_n_12_2_25011 T idx (ix3 q n j) = T (ix3 q i k) := by
  unfold Host.gather
  refine congrArg T ?_
  set g := gather_S250x96x256_S131072x96x2_S250x131072x96_0_12_n_n_12_2_25011 with hg
  funext a
  apply Fin.ext
  show g.start (ix3 q n j) idx a + g.batchCoord (ix3 q n j) a + g.offCoord (ix3 q n j) a = _
  rw [GatherDims.batchCoord_eq_zero _ _ _ List.not_mem_nil]
  fin_cases a
  · have e1 : g.start (ix3 q n j) idx 0 = 0 := by
      unfold GatherDims.start
      rw [dif_neg (by decide)]
    have e2 : g.offCoord (ix3 q n j) 0 = q.val := by rfl
    exact (congrArg₂ (fun u v => u + 0 + v) e1 e2).trans (by simp)
  · have e2 : g.offCoord (ix3 q n j) 1 = 0 := by
      refine GatherDims.offCoord_eq_zero _ _ _ (by decide)
    have e1 : g.start (ix3 q n j) idx 1 = i.val := by
      unfold GatherDims.start
      rw [dif_pos (show (1 : Fin 3) ∈ g.startIndexMap by decide)]
      have hsi : g.siIdx (ix3 q n j) ⟨List.idxOf (1 : Fin 3) g.startIndexMap,
          List.idxOf_lt_length_iff.2 (by decide)⟩ = ix3 n j 0 := by
        funext b; refine Fin.ext ?_
        fin_cases b <;> rfl
      rw [hsi, h0]
      have hi := i.isLt
      show min (BitVec.ofNat 32 i.val).toInt.toNat 95 = i.val
      rw [BitVec.toInt_ofNat']
      simp [Int.bmod]
      omega
    exact (congrArg₂ (fun u v => u + 0 + v) e1 e2).trans (by simp)
  · have e2 : g.offCoord (ix3 q n j) 2 = 0 := by
      refine GatherDims.offCoord_eq_zero _ _ _ (by decide)
    have e1 : g.start (ix3 q n j) idx 2 = k.val := by
      unfold GatherDims.start
      rw [dif_pos (show (2 : Fin 3) ∈ g.startIndexMap by decide)]
      have hsi : g.siIdx (ix3 q n j) ⟨List.idxOf (2 : Fin 3) g.startIndexMap,
          List.idxOf_lt_length_iff.2 (by decide)⟩ = ix3 n j 1 := by
        funext b; refine Fin.ext ?_
        fin_cases b <;> rfl
      rw [hsi, h1]
      have hi := k.isLt
      show min (BitVec.ofNat 32 k.val).toInt.toNat 255 = k.val
      rw [BitVec.toInt_ofNat']
      simp [Int.bmod]
      omega
    exact (congrArg₂ (fun u v => u + 0 + v) e1 e2).trans (by simp)

/-- The two index columns side by side. -/
theorem pair_apply (a b : S131072x96x1.Idx → BitVec 32) (n : Fin 131072) (i : Fin 96) :
    (concatenate S131072x96x2 2 [⟨S131072x96x1, a⟩, ⟨S131072x96x1, b⟩]
        concatenates_S131072x96x1_S131072x96x1_S131072x96x2_d2) (ix3 n i 0) = a (ix3 n i 0)
      ∧ (concatenate S131072x96x2 2 [⟨S131072x96x1, a⟩, ⟨S131072x96x1, b⟩]
        concatenates_S131072x96x1_S131072x96x1_S131072x96x2_d2) (ix3 n i 1) = b (ix3 n i 0) := by
  constructor
  · pointwise
  · pointwise

/-- A score is the sum of the entries of the table that the vector's codes pick. -/
theorem read44_apply (V : Valuation τ sig (Elt Ideal)) (T : S250x96x256.Idx → EReal)
    (hT : (StableHlo.after hostOps1 V (Proc.devRef .tc main_v24) : S250x96x256.Idx → EReal) = T)
    (q : Fin 250) (n : Fin 131072) :
    (show S250x131072.Idx → EReal from StableHlo.after hostOps1 V (Proc.devRef .tc main_v44)) (ix2 q n)
      = ∑ j : Fin 96, T (ix3 q j (PQ.codeN (n := 131072) (V (Proc.devRef .tc main_arg3) : S131072x96.Idx → BitVec 8) n j)) := by
  refine (congrFun (read44 V) (ix2 q n)).trans ?_
  rw [hT]
  pointwise
  change (∑ x : Fin 96, _ : EReal) = (∑ j : Fin 96, _ : EReal)
  refine Finset.sum_congr rfl fun j _ => ?_
  exact gather_apply T _ q n j j _ ((pair_apply _ _ n j).1.trans (v39_apply V n j)) ((pair_apply _ _ n j).2.trans (v40_apply V n j))

/-! ## The table -/

section
variable {xr : Fin 250 → Fin 96 → Fin 8 → ℝ} {sr : Fin 96 → ℝ} {cr : Fin 96 → Fin 8 → Fin 256 → ℝ}

/-- The reference's line for `T` over real inputs is the real expression. -/
theorem table_eq (x : S250x768.Idx → EReal) (s : S96.Idx → EReal) (cb : S96x256x8.Idx → EReal)
    (hx : PQ.IsX x xr) (hs : ∀ i : Fin 96, s (ix1 i) = ((sr i : ℝ) : EReal))
    (hc : ∀ (i : Fin 96) (d : Fin 8) (k : Fin 256), cb (ix3 i k d) = ((cr i d k : ℝ) : EReal))
    (q : Fin 250) (i : Fin 96) (k : Fin 256) (p : ∀ d : Fin 8, i.val * 8 + d.val < 768) :
    (∑ d : Fin 8, x (ix2 q ⟨i.val * 8 + d.val, p d⟩) * x (ix2 q ⟨i.val * 8 + d.val, p d⟩)
        + s (ix1 i) * s (ix1 i) * ∑ d : Fin 8, cb (ix3 i k d) * cb (ix3 i k d))
      - Ideal.ofBits .f32 0x40000000#32
        * ((∑ d : Fin 8, cb (ix3 i k d) * x (ix2 q ⟨i.val * 8 + d.val, p d⟩)) * s (ix1 i))
      = ((PQ.tR xr sr cr q i k : ℝ) : EReal) := by
  have hx' : ∀ d : Fin 8, x (ix2 q ⟨i.val * 8 + d.val, p d⟩) = ((xr q i d : ℝ) : EReal) := by
    intro d
    refine Eq.trans (congrArg (fun z => x (ix2 q z)) (Fin.ext ?_)) (hx q i d)
    show i.val * 8 + d.val = 8 * i.val + d.val
    omega
  simp only [hx', hc, hs, PQ.bits_two, ← EReal.coe_mul, ← PQ.coe_sum, ← EReal.coe_add, ← EReal.coe_sub]
  unfold PQ.tR PQ.xn2 PQ.cn2
  refine congrArg (fun z : ℝ => (z : EReal)) ?_
  rw [mul_comm (sr i * sr i)]
  refine congrArg (fun z : ℝ => _ - 2 * (z * sr i)) (Finset.sum_congr rfl fun d _ => mul_comm _ _)

/-- An entry of the table over real inputs. -/
theorem read24_apply (V : Valuation τ sig (Elt Ideal))
    (hx : PQ.IsX (V (Proc.devRef .tc main_arg0)) xr)
    (hs : ∀ i : Fin 96, (V (Proc.devRef .tc main_arg2) : S96.Idx → EReal) (ix1 i) = ((sr i : ℝ) : EReal))
    (hc : ∀ (i : Fin 96) (d : Fin 8) (k : Fin 256),
      (V (Proc.devRef .tc main_v0) : S96x256x8.Idx → EReal) (ix3 i k d) = ((cr i d k : ℝ) : EReal))
    (q : Fin 250) (i : Fin 96) (k : Fin 256) :
    (StableHlo.after hostOps1 V (Proc.devRef .tc main_v24) : S250x96x256.Idx → EReal) (ix3 q i k)
      = ((PQ.tR xr sr cr q i k : ℝ) : EReal) := by
  after_reads_at
  exact table_eq (V (Proc.devRef .tc main_arg0)) (V (Proc.devRef .tc main_arg2)) (V (Proc.devRef .tc main_v0)) hx hs hc q i k _

end

end Cert.ReferenceIdeal.Val
end
-- ==== Proof.RefArr.lean ====
module

public import proofs.«01_k».proof.Proof.RefR
public import Idealize.ShloMosaic.Lib.Pipeline.ValueKit

/-! What the reference leaves in its two results, over real inputs. -/

@[expose] public section

set_option maxRecDepth 16384

noncomputable section

namespace Cert.ReferenceIdeal.Val

open Idealize.ShloMosaic Idealize.ShloMosaic.TcCoe Idealize.ShloMosaic.Tactic
open Cert.ReferenceIdeal.Gen

variable (m : (ℓ : Loc nD τ sig) → Buf (Elt Ideal) ℓ)

/-! ## The decoded codebook -/

/-- The codebook, each byte as the number it writes. -/
def decoded (c : Dev nD) : S96x256x8.Idx → EReal := fun j =>
  Ideal.ofBits .fp8e4m3 ((m ((c.tc : Thread nD τ).loc main_arg1) : S96x256x8.Idx → BitVec 8) j)

theorem pay_eq (x : Vec Ideal S96x256x8 .i8) : k0_pay1 x = fun j => Ideal.ofBits .fp8e4m3 (x j) := rfl

theorem iblk_0 (c : Dev nD) (t : Fin cfg0.N) :
    (iblk m c 0 t : S96x256x8.Idx → BitVec 8) = m ((c.tc : Thread nD τ).loc main_arg1) := by
  funext j
  show (V m c main_arg1 : S96x256x8.Idx → BitVec 8) (((cfg0.win 0).blk t).view.emb j) = _
  rw [V_main_arg1]
  refine congrArg (m ((c.tc : Thread nD τ).loc main_arg1) : S96x256x8.Idx → BitVec 8) ?_
  funext a
  apply Fin.ext
  exact Pipeline.Window.rect_emb_val_of_index_zero win0_0 t a (by fin_cases a <;> rfl) j

theorem arr_1 (c : Dev nD) : ((dats m 0 c).arrAt 1 cfg0.N : S96x256x8.Idx → EReal) = decoded m c := by
  refine (dats m 0 c).arrAt_eq_of_covers 1 _ (by decide +kernel) fun t hf y => ?_
  blk_simp
  rw [after0_1]
  frame_out
  have e : ((View.whole main_v0).slice (win0_1.rect t)).emb y = y := by
    funext a
    apply Fin.ext
    exact Pipeline.Window.rect_emb_val_of_index_zero win0_1 t a (by fin_cases a <;> rfl) y
  refine Eq.trans ?_ (congrArg (decoded m c) e).symm
  rw [iblk_0]
  rfl

/-! ## What the lines after the region read -/

/-- The buffers as the region leaves them. -/
def U (c : Dev nD) : Valuation τ sig (Elt Ideal) :=
  Pipeline.withArrays (cfgs 0).spec c (V0 m c) fun w => (dats m 0 c).arrAt w (cfgs 0).N

theorem tail_eq (c : Dev nD) (b : Ref sig .tc) :
    Pipeline.afterTail₀ cfgs (dats m) 0 (V0 m) [hostOps1] c b = StableHlo.after hostOps1 (U m c) (Proc.devRef .tc b) := by
  unfold Pipeline.afterTail₀ U
  rw [show ([hostOps1] : List (List (HloOp τ sig (Elt Ideal)))).flatten = hostOps1 from List.flatten_singleton]

theorem U_arg0 (c : Dev nD) : U m c (Proc.devRef .tc main_arg0) = m ((c.tc : Thread nD τ).loc main_arg0) :=
  (Pipeline.withArrays_of_ne _ c (V0 m c) _ main_arg0 (by exact (by decide : ∀ w, Pipeline.arrRef spec0 w ≠ main_arg0))).trans
    (V_main_arg0 m c)
theorem U_arg2 (c : Dev nD) : U m c (Proc.devRef .tc main_arg2) = m ((c.tc : Thread nD τ).loc main_arg2) :=
  (Pipeline.withArrays_of_ne _ c (V0 m c) _ main_arg2 (by exact (by decide : ∀ w, Pipeline.arrRef spec0 w ≠ main_arg2))).trans
    (V_main_arg2 m c)
theorem U_arg3 (c : Dev nD) : U m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans
    (V_main_arg3 m c)
theorem U_v0 (c : Dev nD) : (U m c (Proc.devRef .tc main_v0) : S96x256x8.Idx → EReal) = decoded m c :=
  (Pipeline.withArrays_arr (cfgs 0).spec (by decide : Function.Injective (Pipeline.arrRef spec0)) c (V0 m c) _ 1).trans (arr_1 m c)

/-! ## The results -/

variable {xr : Fin 250 → Fin 96 → Fin 8 → ℝ} {sr : Fin 96 → ℝ} {cr : Fin 96 → Fin 8 → Fin 256 → ℝ}

/-- The inputs hold these reals. -/
structure Real (c : Dev nD) (xr : Fin 250 → Fin 96 → Fin 8 → ℝ) (sr : Fin 96 → ℝ) (cr : Fin 96 → Fin 8 → Fin 256 → ℝ) : Prop where
  x : PQ.IsX (m ((c.tc : Thread nD τ).loc main_arg0)) xr
  s : ∀ i : Fin 96, (m ((c.tc : Thread nD τ).loc main_arg2) : S96.Idx → EReal) (ix1 i) = ((sr i : ℝ) : EReal)
  w : ∀ (i : Fin 96) (d : Fin 8) (k : Fin 256), decoded m c (ix3 i k d) = ((cr i d k : ℝ) : EReal)

/-- The table. -/
theorem table (c : Dev nD) (h : Real m c xr sr cr) :
    (Pipeline.afterTail₀ cfgs (dats m) 0 (V0 m) [hostOps1] c main_v24 : S250x96x256.Idx → EReal)
      = fun j => ((PQ.tR xr sr cr (j 0) (j 1) (j 2) : ℝ) : EReal) := by
  funext j
  refine (congrFun (tail_eq m c main_v24) j).trans ?_
  have hj : j = ix3 (j 0) (j 1) (j 2) := eq_ix3 j
  refine (congrArg (StableHlo.after hostOps1 (U m c) (Proc.devRef .tc main_v24) : S250x96x256.Idx → EReal) hj).trans ?_
  refine read24_apply (U m c) ?_ ?_ ?_ (j 0) (j 1) (j 2)
  · rw [U_arg0]; exact h.x
  · rw [U_arg2]; exact h.s
  · rw [U_v0]; exact h.w

/-- The scores. -/
theorem scores (c : Dev nD) (h : Real m c xr sr cr) :
    (Pipeline.afterTail₀ cfgs (dats m) 0 (V0 m) [hostOps1] c main_v44 : S250x131072.Idx → EReal)
      = fun j => ((PQ.scR xr sr cr (j 0) (PQ.codeN (n := 131072) (m ((c.tc : Thread nD τ).loc main_arg3)) (j 1)) : ℝ) : EReal) := by
  funext j
  have hj : j = ix2 (j 0) (j 1) := eq_ix2 j
  refine (congrFun (tail_eq m c main_v44) j).trans ?_
  refine (congrArg (StableHlo.after hostOps1 (U m c) (Proc.devRef .tc main_v44) : S250x131072.Idx → EReal) hj).trans ?_
  refine (read44_apply (U m c) _ ((tail_eq m c main_v24).symm.trans (table m c h)) (j 0) (j 1)).trans ?_
  rw [U_arg3]
  unfold PQ.scR
  exact (PQ.coe_sum _ _).symm

end Cert.ReferenceIdeal.Val
end
-- ==== Proof.Algebraic.lean ====
module

public import proofs.«01_k».proof.Defs
public import proofs.«01_k».proof.Proof.PreKI
public import proofs.«01_k».proof.Proof.ArrKI
public import proofs.«01_k».proof.Proof.RefArr
public import proofs.«01_k».proof.Proof.KIFrame
public import proofs.«01_k».proof.Proof.Gen.Pre_finite

/-! The equation of the two programs: over the extended reals, from equal inputs that satisfy the precondition, the
kernel and the reference both end with the table `T` and the scores of the same reals. -/

@[expose] public section

noncomputable section

namespace Cert.Proof

open Idealize.ShloMosaic Idealize.ShloMosaic.TcCoe Idealize.SL.Sem

/-- The precondition names the reals that the inputs of device `c` hold. -/
theorem reals (m : (ℓ : Loc Cert.KernelIdeal.nD Cert.KernelIdeal.τ Cert.KernelIdeal.sig) → Buf (Elt Ideal) ℓ)
    (hpre : Cert.Pre_KernelIdeal_finite m) (c : Dev Cert.KernelIdeal.nD) :
    ∃ (xr : Fin 250 → Fin 96 → Fin 8 → ℝ) (sr : Fin 96 → ℝ) (cr : Fin 96 → Fin 8 → Fin 256 → ℝ),
      PQ.IsX (m ((c.tc : Thread Cert.KernelIdeal.nD Cert.KernelIdeal.τ).loc Cert.KernelIdeal.main_arg0)) xr
      ∧ (∀ i : Fin 96, (m ((c.tc : Thread Cert.KernelIdeal.nD Cert.KernelIdeal.τ).loc Cert.KernelIdeal.main_arg2)
          : Cert.KernelIdeal.S96.Idx → EReal) (ix1 i) = ((sr i : ℝ) : EReal))
      ∧ (∀ i, 0 ≤ sr i)
      ∧ ∀ (i : Fin 96) (d : Fin 8) (k : Fin 256),
          Ideal.ofBits .fp8e4m3 ((m ((c.tc : Thread Cert.KernelIdeal.nD Cert.KernelIdeal.τ).loc Cert.KernelIdeal.main_arg1)
            : Cert.KernelIdeal.S96x256x8.Idx → BitVec 8) (ix3 i k d)) = ((cr i d k : ℝ) : EReal) := by
  obtain ⟨h0, h2, h1⟩ := Cert.Pre_finite.read _ _ _ _ (hpre c)
  choose xv hx using h0
  choose sv hs0 hs using h2
  choose wv hw using h1
  exact ⟨fun q i d => xv (ix2 q (PQ.ch i d)), fun i => sv (ix1 i), fun i d k => wv (ix3 i k d),
    fun q i d => hx _, fun i => hs _, fun i => hs0 _, fun i d k => hw _⟩

theorem algebraic : Cert.algebraic_KernelIdeal_ReferenceIdeal_pre_finite := by
  intro m g m' g' hpre hag
  choose xr sr cr hx hs h0 hw using reals m hpre
  refine ⟨fun c => Cert.KernelIdeal.Val.resO (xr c) (sr c) (cr c) (m ((c.tc : Thread Cert.KernelIdeal.nD Cert.KernelIdeal.τ).loc Cert.KernelIdeal.main_arg3)),
    fun c => Cert.KernelIdeal.Val.resT (xr c) (sr c) (cr c), ?_, ?_⟩
  · have kx : ∀ c, PQ.IsX (Cert.KernelIdeal.Val.aX m c) (xr c) := fun c => by
      unfold Cert.KernelIdeal.Val.aX
      rw [Cert.KernelIdeal.Gen.V_main_arg0]
      exact hx c
    have ks : ∀ c, PQ.IsS (Cert.KernelIdeal.Val.aS m c) (sr c) := fun c i l => (Cert.KernelIdeal.Val.aS_apply m c i l).trans (hs c i)
    have kw : ∀ c, PQ.IsW (Cert.KernelIdeal.Val.aW m c) (cr c) := fun c i d k => (Cert.KernelIdeal.Val.aW_cw m c i d k).trans (hw c i d k)
    refine (θ_run Cert.KernelIdeal.defs _ _).mono (fun r h c => ?_)
      (θ_run_and (Cert.KernelIdeal.Val.run_main m g) (Cert.KernelIdeal.Gen.frame m g))
    exact ⟨((h.1 c).1 4).trans (Cert.KernelIdeal.Val.arr_O m c (kx c) (ks c) (h0 c) (kw c)),
      ((h.1 c).1 5).trans (Cert.KernelIdeal.Val.arr_T m c (kx c) (ks c) (kw c)), h.2.1 c⟩
  · have hr : ∀ c, Cert.ReferenceIdeal.Val.Real m' c (xr c) (sr c) (cr c) := fun c => by
      obtain ⟨a0, a1, a2, a3⟩ := hag c
      refine ⟨?_, ?_, ?_⟩
      · rw [a0]; exact hx c
      · rw [a2]; exact hs c
      · unfold Cert.ReferenceIdeal.Val.decoded
        rw [a1]; exact hw c
    refine (θ_run Cert.ReferenceIdeal.defs _ _).mono (fun r h c => ?_)
      (θ_run_and (Cert.ReferenceIdeal.Gen.run_main m' g') (Cert.ReferenceIdeal.Gen.unchanged m' g'))
    refine ⟨((h.1 c).2 Cert.ReferenceIdeal.main_v44 (Pipeline.mem_restRefs_of _ (by decide) (by decide))).trans
        ((Cert.ReferenceIdeal.Val.scores m' c (hr c)).trans ?_),
      ((h.1 c).2 Cert.ReferenceIdeal.main_v24 (Pipeline.mem_restRefs_of _ (by decide) (by decide))).trans
        (Cert.ReferenceIdeal.Val.table m' c (hr c)), h.2 c⟩
    rw [(hag c).2.2.2]
    rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.KFrame
public import proofs.«01_k».proof.Proof.KIFrame
public import proofs.«01_k».proof.Proof.Gen.ReferenceIdeal.Frame
public import proofs.«01_k».proof.Proof.Algebraic

/-! The claims, assembled: the three programs run and leave their arguments unchanged and every counter at zero, the
kernel is its idealized form (nothing was rewritten), and over the extended reals the kernel computes the reference. -/

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    trivial, algebraic⟩

end Cert.Proof

end
